-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_range [hPre_unit_range : Cert.Pre_unit_range.Facts] (m : (ℓ : Loc Cert.KernelIdeal.nD Cert.KernelIdeal.τ Cert.KernelIdeal.sig) → Buf (Elt Ideal) ℓ) : Prop :=
  ∀ c : Dev Cert.KernelIdeal.nD,
    (Cert.Pre_unit_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_range [hPre_unit_range : Cert.Pre_unit_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_range [hKernelIdeal : Cert.KernelIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_range [hReferenceIdeal : Cert.ReferenceIdeal.Facts] [hPre_unit_range : Cert.Pre_unit_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_seven" .f32 0x3E124925#32 ((1 / 7 : ℝ) : EReal)
  ∧ IdealRules.named_const.Statement Cert.KernelIdeal.κ "neg_degree" .f32 0xBC8EFA35#32 ((-878453 / 50331648 : ℝ) : EReal)

def algebraic_KernelIdeal_ReferenceIdeal_pre_unit_range [hKernelIdeal : Cert.KernelIdeal.Facts] [hReferenceIdeal : Cert.ReferenceIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v304) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_range : Cert.Pre_unit_range.Facts),
    quiescent_Kernel (hKernel := hKernel)
    ∧ quiescent_KernelIdeal (hKernelIdeal := hKernelIdeal)
    ∧ quiescent_KernelIdeal_pre_unit_range (hKernelIdeal := hKernelIdeal) (hPre_unit_range := hPre_unit_range)
    ∧ quiescent_ReferenceIdeal (hReferenceIdeal := hReferenceIdeal)
    ∧ quiescent_ReferenceIdeal_pre_unit_range (hReferenceIdeal := hReferenceIdeal) (hPre_unit_range := hPre_unit_range)
    ∧ preserves_Kernel_KernelIdeal
    ∧ algebraic_KernelIdeal_ReferenceIdeal_pre_unit_range (hKernelIdeal := hKernelIdeal) (hReferenceIdeal := hReferenceIdeal) (hPre_unit_range := hPre_unit_range)
-- ==== Pre_unit_range.lean ====
abbrev S2x384x64x64 : Shape := ⟨4, ![2, 384, 64, 64]⟩
abbrev S2x500x5 : Shape := ⟨3, ![2, 500, 5]⟩
abbrev S2x500x4 : Shape := ⟨3, ![2, 500, 4]⟩
abbrev S_ : Shape := ⟨0, ![]⟩

class Facts : Prop where
  slices_S2x500x5_S2x500x4_0_0_0 : S2x500x5.Slices ![0, 0, 0] S2x500x4
  bcast_S_S2x500x4 : S_.BroadcastsInDim S2x500x4 (![] : Fin 0 → Fin S2x500x4.rank)
  reducesTo_S2x500x4_S_d0_1_2 : S2x500x4.ReducesTo [0, 1, 2] S_
  h_S_ : 0 < S_.numel

variable [Facts]

def fn {F : FTy → Type} [FloatOps F] (main_arg0 : FVec F S2x384x64x64 .f32) (main_arg1 : FVec F S2x500x5 .f32) : IVec S_ 1 :=
  let main_v0 : FVec F S2x500x4 .f32 := (extractStridedSlice S2x500x4 ![0, 0, 0] · slices_S2x500x5_S2x500x4_0_0_0) main_arg1
  let main_cst : FVec F S_ .f32 := constant S_ .f32 0x00000000#32
  let main_v1 : FVec F S2x500x4 .f32 := broadcastInDim S2x500x4 ![] bcast_S_S2x500x4 main_cst
  let main_v2 : IVec S2x500x4 1 := cmpf .oge main_v0 main_v1
  let main_cst_0 : FVec F S_ .f32 := constant S_ .f32 0x3F800000#32
  let main_v3 : FVec F S2x500x4 .f32 := broadcastInDim S2x500x4 ![] bcast_S_S2x500x4 main_cst_0
  let main_v4 : IVec S2x500x4 1 := cmpf .ole main_v0 main_v3
  let main_v5 : IVec S2x500x4 1 := andi main_v2 main_v4
  let main_c : IVec S_ 1 := constantI S_ 1 1#1
  let main_v6 : IVec S_ 1 := (fun x v => Host.reduce IntOp.andi x v reducesTo_S2x500x4_S_d0_1_2 h_S_) main_v5 main_c
  main_v6
-- ==== Kernel.lean ====
abbrev S2x384x64x64 : Shape := ⟨4, ![2, 384, 64, 64]⟩
abbrev S2x500x5 : Shape := ⟨3, ![2, 500, 5]⟩
abbrev S5x2x500 : Shape := ⟨3, ![5, 2, 500]⟩
abbrev S5x1000 : Shape := ⟨2, ![5, 1000]⟩
abbrev S2x64x64x384 : Shape := ⟨4, ![2, 64, 64, 384]⟩
abbrev S49x1000x384 : Shape := ⟨3, ![49, 1000, 384]⟩
abbrev S2x4x8x384 : Shape := ⟨4, ![2, 4, 8, 384]⟩
abbrev S2x7x1000x384 : Shape := ⟨4, ![2, 7, 1000, 384]⟩
abbrev S2x2 : Shape := ⟨2, ![2, 2]⟩
abbrev S1x1 : Shape := ⟨2, ![1, 1]⟩
abbrev S_ : Shape := ⟨0, ![]⟩
abbrev S4x1000x384 : Shape := ⟨3, ![4, 1000, 384]⟩
abbrev S1x4x1000x384 : Shape := ⟨4, ![1, 4, 1000, 384]⟩
abbrev S3x1000x384 : Shape := ⟨3, ![3, 1000, 384]⟩
abbrev S1x3x1000x384 : Shape := ⟨4, ![1, 3, 1000, 384]⟩
abbrev S1x1000 : Shape := ⟨2, ![1, 1000]⟩
abbrev S32x1000 : Shape := ⟨2, ![32, 1000]⟩
abbrev S1x1x4x384 : Shape := ⟨4, ![1, 1, 4, 384]⟩
abbrev S4x384 : Shape := ⟨2, ![4, 384]⟩
abbrev S32x384 : Shape := ⟨2, ![32, 384]⟩
abbrev S1000x384 : Shape := ⟨2, ![1000, 384]⟩
abbrev S1x7x1000x384 : Shape := ⟨4, ![1, 7, 1000, 384]⟩
abbrev S7x1000x384 : Shape := ⟨3, ![7, 1000, 384]⟩
abbrev S1x1000x384 : Shape := ⟨3, ![1, 1000, 384]⟩
abbrev S1000x384x49 : Shape := ⟨3, ![1000, 384, 49]⟩
abbrev S1000x384x7x7 : Shape := ⟨4, ![1000, 384, 7, 7]⟩

abbrev nBuf : Space → Nat
  | .hbm => 8
  | .vmem => 3
  | .smem => 0
  | _ => 0

abbrev bufTy : (tb : Table) → Fin (tcTables nBuf tb) → BufTy
  | .hbm, ⟨0, _⟩ => ⟨S2x384x64x64, .f32⟩
  | .hbm, ⟨1, _⟩ => ⟨S2x500x5, .f32⟩
  | .hbm, ⟨2, _⟩ => ⟨S5x2x500, .f32⟩
  | .hbm, ⟨3, _⟩ => ⟨S5x1000, .f32⟩
  | .hbm, ⟨4, _⟩ => ⟨S2x64x64x384, .f32⟩
  | .hbm, ⟨5, _⟩ => ⟨S49x1000x384, .f32⟩
  | .hbm, ⟨6, _⟩ => ⟨S1000x384x49, .f32⟩
  | .hbm, ⟨7, _⟩ => ⟨S1000x384x7x7, .f32⟩
  | .local _ .vmem, ⟨0, _⟩ => ⟨S5x1000, .f32⟩
  | .local _ .vmem, ⟨1, _⟩ => ⟨S2x4x8x384, .f32⟩
  | .local _ .vmem, ⟨2, _⟩ => ⟨S2x7x1000x384, .f32⟩
  | _, _ => ⟨S2x384x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_782 : BitVec 32 := 0#32
  ![v9.toNat, 0]
def k0_off2 (i : grid0.Coords) : Fin 3 → Nat :=
  let arg0 : BitVec 32 := BitVec.ofNat 32 (i 0).val
  let c2_i32_778 : BitVec 32 := 2#32
  let v1919 : BitVec 32 := Scalar.subi arg0 c2_i32_778
  let c7_i32_779 : BitVec 32 := 7#32
  let v1920 : BitVec 32 := Scalar.muli v1919 c7_i32_779
  let c0_i32_783 : BitVec 32 := 0#32
  let c0_i32_784 : BitVec 32 := 0#32
  ![v1920.toNat, 0, 0]
def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_785 : BitVec 32 := 0#32
  let c0_i32_786 : BitVec 32 := 0#32
  let c0_i32_787 : BitVec 32 := 0#32
  ![v9.toNat, 0, 0, 0]
def k0_off4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_788 : BitVec 32 := 1#32
  ![v9.toNat, 1]
def k0_off5 (i : grid0.Coords) : Fin 3 → Nat :=
  let arg0 : BitVec 32 := BitVec.ofNat 32 (i 0).val
  let c2_i32_778 : BitVec 32 := 2#32
  let v1919 : BitVec 32 := Scalar.subi arg0 c2_i32_778
  let c7_i32_780 : BitVec 32 := 7#32
  let v1921 : BitVec 32 := Scalar.muli v1919 c7_i32_780
  let c4_i32_781 : BitVec 32 := 4#32
  let v1922 : BitVec 32 := Scalar.addi v1921 c4_i32_781
  let c0_i32_789 : BitVec 32 := 0#32
  let c0_i32_790 : BitVec 32 := 0#32
  ![v1922.toNat, 0, 0]
def k0_off6 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_791 : BitVec 32 := 4#32
  let c0_i32_792 : BitVec 32 := 0#32
  let c0_i32_793 : BitVec 32 := 0#32
  ![v9.toNat, 4, 0, 0]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_101 : BitVec 32 := 0#32
  let c0_i32_102 : BitVec 32 := 0#32
  let c0_i32_103 : BitVec 32 := 0#32
  ![v9.toNat, 0, 0, 0]
def k0_off8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_764 : BitVec 32 := 0#32
  ![v9.toNat, 0]
def k0_off9 (i : grid0.Coords) : Fin 3 → Nat :=
  let arg0 : BitVec 32 := BitVec.ofNat 32 (i 0).val
  let c7_i32_761 : BitVec 32 := 7#32
  let v1903 : BitVec 32 := Scalar.muli arg0 c7_i32_761
  let c0_i32_765 : BitVec 32 := 0#32
  let c0_i32_766 : BitVec 32 := 0#32
  ![v1903.toNat, 0, 0]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_767 : BitVec 32 := 0#32
  let c0_i32_768 : BitVec 32 := 0#32
  let c0_i32_769 : BitVec 32 := 0#32
  ![v9.toNat, 0, 0, 0]
def k0_off11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_770 : BitVec 32 := 1#32
  ![v9.toNat, 1]
def k0_off12 (i : grid0.Coords) : Fin 3 → Nat :=
  let arg0 : BitVec 32 := BitVec.ofNat 32 (i 0).val
  let c7_i32_762 : BitVec 32 := 7#32
  let v1904 : BitVec 32 := Scalar.muli arg0 c7_i32_762
  let c4_i32_763 : BitVec 32 := 4#32
  let v1905 : BitVec 32 := Scalar.addi v1904 c4_i32_763
  let c0_i32_771 : BitVec 32 := 0#32
  let c0_i32_772 : BitVec 32 := 0#32
  ![v1905.toNat, 0, 0]
def k0_off13 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_773 : BitVec 32 := 4#32
  let c0_i32_774 : BitVec 32 := 0#32
  let c0_i32_775 : BitVec 32 := 0#32
  ![v9.toNat, 4, 0, 0]
def k0_cond2 (i : grid0.Coords) : BitVec 1 :=
  let arg0 : BitVec 32 := BitVec.ofNat 32 (i 0).val
  let c6_i32_776 : BitVec 32 := 6#32
  let v1916 : BitVec 1 := Scalar.cmpi .eq arg0 c6_i32_776
  let v1917 : BitVec 32 := Scalar.extui v1916
  let c0_i32_777 : BitVec 32 := 0#32
  let v1918 : BitVec 1 := Scalar.cmpi .ne v1917 c0_i32_777
  v1918

def k0_off14 (i : grid0.Coords) : Fin 2 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1920 : BitVec 32 := Scalar.subi c1_i32_779 v9
  let c0_i32_783 : BitVec 32 := 0#32
  ![v1920.toNat, 0]
def k0_off15 (i : grid0.Coords) : Fin 3 → Nat :=
  let arg0 : BitVec 32 := BitVec.ofNat 32 (i 0).val
  let c1_i32_778 : BitVec 32 := 1#32
  let v1919 : BitVec 32 := Scalar.subi arg0 c1_i32_778
  let c7_i32_780 : BitVec 32 := 7#32
  let v1921 : BitVec 32 := Scalar.muli v1919 c7_i32_780
  let c0_i32_784 : BitVec 32 := 0#32
  let c0_i32_785 : BitVec 32 := 0#32
  ![v1921.toNat, 0, 0]
def k0_off16 (i : grid0.Coords) : Fin 4 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1920 : BitVec 32 := Scalar.subi c1_i32_779 v9
  let c0_i32_786 : BitVec 32 := 0#32
  let c0_i32_787 : BitVec 32 := 0#32
  let c0_i32_788 : BitVec 32 := 0#32
  ![v1920.toNat, 0, 0, 0]
def k0_off17 (i : grid0.Coords) : Fin 2 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1920 : BitVec 32 := Scalar.subi c1_i32_779 v9
  let c1_i32_789 : BitVec 32 := 1#32
  ![v1920.toNat, 1]
def k0_off18 (i : grid0.Coords) : Fin 3 → Nat :=
  let arg0 : BitVec 32 := BitVec.ofNat 32 (i 0).val
  let c1_i32_778 : BitVec 32 := 1#32
  let v1919 : BitVec 32 := Scalar.subi arg0 c1_i32_778
  let c7_i32_781 : BitVec 32 := 7#32
  let v1922 : BitVec 32 := Scalar.muli v1919 c7_i32_781
  let c4_i32_782 : BitVec 32 := 4#32
  let v1923 : BitVec 32 := Scalar.addi v1922 c4_i32_782
  let c0_i32_790 : BitVec 32 := 0#32
  let c0_i32_791 : BitVec 32 := 0#32
  ![v1923.toNat, 0, 0]
def k0_off19 (i : grid0.Coords) : Fin 4 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1920 : BitVec 32 := Scalar.subi c1_i32_779 v9
  let c4_i32_792 : BitVec 32 := 4#32
  let c0_i32_793 : BitVec 32 := 0#32
  let c0_i32_794 : BitVec 32 := 0#32
  ![v1920.toNat, 4, 0, 0]
def k0_off20 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_798 : BitVec 32 := 0#32
  ![v9.toNat, 0]
def k0_off21 (i : grid0.Coords) : Fin 3 → Nat :=
  let arg0 : BitVec 32 := BitVec.ofNat 32 (i 0).val
  let c7_i32_795 : BitVec 32 := 7#32
  let v1934 : BitVec 32 := Scalar.muli arg0 c7_i32_795
  let c0_i32_799 : BitVec 32 := 0#32
  let c0_i32_800 : BitVec 32 := 0#32
  ![v1934.toNat, 0, 0]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_801 : BitVec 32 := 0#32
  let c0_i32_802 : BitVec 32 := 0#32
  let c0_i32_803 : BitVec 32 := 0#32
  ![v9.toNat, 0, 0, 0]
def k0_off23 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_804 : BitVec 32 := 1#32
  ![v9.toNat, 1]
def k0_off24 (i : grid0.Coords) : Fin 3 → Nat :=
  let arg0 : BitVec 32 := BitVec.ofNat 32 (i 0).val
  let c7_i32_796 : BitVec 32 := 7#32
  let v1935 : BitVec 32 := Scalar.muli arg0 c7_i32_796
  let c4_i32_797 : BitVec 32 := 4#32
  let v1936 : BitVec 32 := Scalar.addi v1935 c4_i32_797
  let c0_i32_805 : BitVec 32 := 0#32
  let c0_i32_806 : BitVec 32 := 0#32
  ![v1936.toNat, 0, 0]
def k0_off25 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_807 : BitVec 32 := 4#32
  let c0_i32_808 : BitVec 32 := 0#32
  let c0_i32_809 : BitVec 32 := 0#32
  ![v9.toNat, 4, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S5x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x4x8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "inv_seven" => some ((1 / 7 : ℝ) : EReal)
  | "neg_degree" => some ((-878453 / 50331648 : ℝ) : EReal)
  | _ => none
-- ==== ReferenceIdeal.lean ====
abbrev S2x384x64x64 : Shape := ⟨4, ![2, 384, 64, 64]⟩
abbrev S2x500x5 : Shape := ⟨3, ![2, 500, 5]⟩
abbrev S1000x5 : Shape := ⟨2, ![1000, 5]⟩
abbrev S2 : Shape := ⟨1, ![2]⟩
abbrev S2x500 : Shape := ⟨2, ![2, 500]⟩
abbrev S1000 : Shape := ⟨1, ![1000]⟩
abbrev S1000x1 : Shape := ⟨2, ![1000, 1]⟩
abbrev S_ : Shape := ⟨0, ![]⟩
abbrev S7 : Shape := ⟨1, ![7]⟩
abbrev S7x7 : Shape := ⟨2, ![7, 7]⟩
abbrev S1000x1x1 : Shape := ⟨3, ![1000, 1, 1]⟩
abbrev S1x7x7 : Shape := ⟨3, ![1, 7, 7]⟩
abbrev S1000x7x7 : Shape := ⟨3, ![1000, 7, 7]⟩
abbrev S1000x7x7x1 : Shape := ⟨4, ![1000, 7, 7, 1]⟩
abbrev S1000x7x7x3 : Shape := ⟨4, ![1000, 7, 7, 3]⟩
abbrev S1000x7x7x384 : Shape := ⟨4, ![1000, 7, 7, 384]⟩
abbrev S1000x384x7x7 : Shape := ⟨4, ![1000, 384, 7, 7]⟩

abbrev nBuf : Space → Nat
  | .hbm => 435
  | .vmem => 0
  | .smem => 0
  | _ => 0

abbrev hbmTy0_0 (i : Nat) : BufTy := match i % 128 with
  | 0 => ⟨S2x384x64x64, .f32⟩
  | 1 => ⟨S2x500x5, .f32⟩
  | 2 => ⟨S1000x5, .f32⟩
  | 3 => ⟨S2, .i32⟩
  | 4 => ⟨S2x500, .i32⟩
  | 5 => ⟨S1000, .i32⟩
  | 6 => ⟨S1000x1, .f32⟩
  | 7 => ⟨S1000, .f32⟩
  | 8 => ⟨S1000x1, .f32⟩
  | 9 => ⟨S1000, .f32⟩
  | 10 => ⟨S1000x1, .f32⟩
  | 11 => ⟨S1000, .f32⟩
  | 12 => ⟨S1000x1, .f32⟩
  | 13 => ⟨S1000, .f32⟩
  | 14 => ⟨S1000x1, .f32⟩
  | 15 => ⟨S1000, .f32⟩
  | 16 => ⟨S1000, .f32⟩
  | 17 => ⟨S_, .f32⟩
  | 18 => ⟨S1000, .f32⟩
  | 19 => ⟨S1000, .f32⟩
  | 20 => ⟨S_, .f32⟩
  | 21 => ⟨S1000, .f32⟩
  | 22 => ⟨S1000, .f32⟩
  | 23 => ⟨S_, .f32⟩
  | 24 => ⟨S1000, .f32⟩
  | 25 => ⟨S1000, .f32⟩
  | 26 => ⟨S1000, .f32⟩
  | 27 => ⟨S1000, .f32⟩
  | 28 => ⟨S1000, .f32⟩
  | 29 => ⟨S_, .f32⟩
  | 30 => ⟨S1000, .f32⟩
  | 31 => ⟨S1000, .f32⟩
  | 32 => ⟨S1000, .f32⟩
  | 33 => ⟨S1000, .f32⟩
  | 34 => ⟨S_, .f32⟩
  | 35 => ⟨S1000, .f32⟩
  | 36 => ⟨S1000, .f32⟩
  | 37 => ⟨S_, .f32⟩
  | 38 => ⟨S1000, .f32⟩
  | 39 => ⟨S1000, .f32⟩
  | 40 => ⟨S_, .f32⟩
  | 41 => ⟨S1000, .f32⟩
  | 42 => ⟨S1000, .f32⟩
  | 43 => ⟨S_, .f32⟩
  | 44 => ⟨S1000, .f32⟩
  | 45 => ⟨S1000, .f32⟩
  | 46 => ⟨S1000, .f32⟩
  | 47 => ⟨S1000, .f32⟩
  | 48 => ⟨S_, .f32⟩
  | 49 => ⟨S1000, .f32⟩
  | 50 => ⟨S1000, .f32⟩
  | 51 => ⟨S1000, .f32⟩
  | 52 => ⟨S1000, .f32⟩
  | 53 => ⟨S_, .f32⟩
  | 54 => ⟨S1000, .f32⟩
  | 55 => ⟨S1000, .f32⟩
  | 56 => ⟨S_, .f32⟩
  | 57 => ⟨S1000, .f32⟩
  | 58 => ⟨S1000, .f32⟩
  | 59 => ⟨S_, .f32⟩
  | 60 => ⟨S1000, .f32⟩
  | 61 => ⟨S1000, .f32⟩
  | 62 => ⟨S7, .f32⟩
  | 63 => ⟨S_, .f32⟩
  | 64 => ⟨S7, .f32⟩
  | 65 => ⟨S7, .f32⟩
  | 66 => ⟨S_, .f32⟩
  | 67 => ⟨S7, .f32⟩
  | 68 => ⟨S7, .f32⟩
  | 69 => ⟨S_, .f32⟩
  | 70 => ⟨S7, .f32⟩
  | 71 => ⟨S7, .f32⟩
  | 72 => ⟨S_, .f32⟩
  | 73 => ⟨S7, .f32⟩
  | 74 => ⟨S7, .f32⟩
  | 75 => ⟨S7, .f32⟩
  | 76 => ⟨S_, .f32⟩
  | 77 => ⟨S7, .f32⟩
  | 78 => ⟨S7, .f32⟩
  | 79 => ⟨S_, .f32⟩
  | 80 => ⟨S7, .f32⟩
  | 81 => ⟨S7, .f32⟩
  | 82 => ⟨S_, .f32⟩
  | 83 => ⟨S7, .f32⟩
  | 84 => ⟨S7, .f32⟩
  | 85 => ⟨S_, .f32⟩
  | 86 => ⟨S7, .f32⟩
  | 87 => ⟨S7, .f32⟩
  | 88 => ⟨S7x7, .f32⟩
  | 89 => ⟨S7x7, .f32⟩
  | 90 => ⟨S1000x1x1, .f32⟩
  | 91 => ⟨S1x7x7, .f32⟩
  | 92 => ⟨S1000x7x7, .f32⟩
  | 93 => ⟨S1000x7x7, .f32⟩
  | 94 => ⟨S1000x7x7, .f32⟩
  | 95 => ⟨S1000x1x1, .f32⟩
  | 96 => ⟨S1x7x7, .f32⟩
  | 97 => ⟨S1000x7x7, .f32⟩
  | 98 => ⟨S1000x7x7, .f32⟩
  | 99 => ⟨S1000x7x7, .f32⟩
  | 100 => ⟨S1000x7x7, .f32⟩
  | 101 => ⟨S1000x1x1, .f32⟩
  | 102 => ⟨S1000x7x7, .f32⟩
  | 103 => ⟨S1000x7x7, .f32⟩
  | 104 => ⟨S1000x1x1, .f32⟩
  | 105 => ⟨S1x7x7, .f32⟩
  | 106 => ⟨S1000x7x7, .f32⟩
  | 107 => ⟨S1000x7x7, .f32⟩
  | 108 => ⟨S1000x7x7, .f32⟩
  | 109 => ⟨S1000x1x1, .f32⟩
  | 110 => ⟨S1x7x7, .f32⟩
  | 111 => ⟨S1000x7x7, .f32⟩
  | 112 => ⟨S1000x7x7, .f32⟩
  | 113 => ⟨S1000x7x7, .f32⟩
  | 114 => ⟨S1000x7x7, .f32⟩
  | 115 => ⟨S1000x1x1, .f32⟩
  | 116 => ⟨S1000x7x7, .f32⟩
  | 117 => ⟨S1000x7x7, .f32⟩
  | 118 => ⟨S_, .f32⟩
  | 119 => ⟨S1000x7x7, .f32⟩
  | 120 => ⟨S1000x7x7, .f32⟩
  | 121 => ⟨S_, .f32⟩
  | 122 => ⟨S1000x7x7, .f32⟩
  | 123 => ⟨S1000x7x7, .f32⟩
  | 124 => ⟨S_, .f32⟩
  | 125 => ⟨S1000x7x7, .f32⟩
  | 126 => ⟨S1000x7x7, .f32⟩
  | 127 => ⟨S_, .f32⟩
  | _ => ⟨S2x384x64x64, .f32⟩

abbrev hbmTy0_1 (i : Nat) : BufTy := match i % 128 with
  | 0 => ⟨S1000x7x7, .f32⟩
  | 1 => ⟨S1000x7x7, .f32⟩
  | 2 => ⟨S_, .f32⟩
  | 3 => ⟨S1000x7x7, .f32⟩
  | 4 => ⟨S1000x7x7, .f32⟩
  | 5 => ⟨S_, .f32⟩
  | 6 => ⟨S1000x7x7, .f32⟩
  | 7 => ⟨S1000x7x7, .f32⟩
  | 8 => ⟨S_, .f32⟩
  | 9 => ⟨S1000x7x7, .f32⟩
  | 10 => ⟨S1000x7x7, .f32⟩
  | 11 => ⟨S_, .f32⟩
  | 12 => ⟨S1000x7x7, .f32⟩
  | 13 => ⟨S1000x7x7, .f32⟩
  | 14 => ⟨S1000x7x7, .f32⟩
  | 15 => ⟨S1000x7x7, .f32⟩
  | 16 => ⟨S_, .f32⟩
  | 17 => ⟨S1000x7x7, .f32⟩
  | 18 => ⟨S1000x7x7, .f32⟩
  | 19 => ⟨S_, .f32⟩
  | 20 => ⟨S1000x7x7, .f32⟩
  | 21 => ⟨S1000x7x7, .f32⟩
  | 22 => ⟨S1000x7x7, .f32⟩
  | 23 => ⟨S_, .f32⟩
  | 24 => ⟨S1000x7x7, .f32⟩
  | 25 => ⟨S1000x7x7, .f32⟩
  | 26 => ⟨S1000x7x7, .f32⟩
  | 27 => ⟨S_, .f32⟩
  | 28 => ⟨S1000x7x7, .f32⟩
  | 29 => ⟨S1000x7x7, .f32⟩
  | 30 => ⟨S1000x1x1, .i32⟩
  | 31 => ⟨S_, .f32⟩
  | 32 => ⟨S1000x7x7, .f32⟩
  | 33 => ⟨S1000x7x7, .i1⟩
  | 34 => ⟨S_, .f32⟩
  | 35 => ⟨S1000x7x7, .f32⟩
  | 36 => ⟨S1000x7x7, .i1⟩
  | 37 => ⟨S1000x7x7, .i1⟩
  | 38 => ⟨S_, .f32⟩
  | 39 => ⟨S1000x7x7, .f32⟩
  | 40 => ⟨S1000x7x7, .i1⟩
  | 41 => ⟨S1000x7x7, .i1⟩
  | 42 => ⟨S_, .f32⟩
  | 43 => ⟨S1000x7x7, .f32⟩
  | 44 => ⟨S1000x7x7, .i1⟩
  | 45 => ⟨S1000x7x7, .i1⟩
  | 46 => ⟨S_, .i32⟩
  | 47 => ⟨S_, .i32⟩
  | 48 => ⟨S_, .f32⟩
  | 49 => ⟨S1000x7x7, .f32⟩
  | 50 => ⟨S1000x7x7, .f32⟩
  | 51 => ⟨S_, .f32⟩
  | 52 => ⟨S1000x7x7, .f32⟩
  | 53 => ⟨S1000x7x7, .f32⟩
  | 54 => ⟨S1000x7x7, .i32⟩
  | 55 => ⟨S_, .i32⟩
  | 56 => ⟨S_, .i32⟩
  | 57 => ⟨S_, .f32⟩
  | 58 => ⟨S1000x7x7, .f32⟩
  | 59 => ⟨S1000x7x7, .f32⟩
  | 60 => ⟨S_, .f32⟩
  | 61 => ⟨S1000x7x7, .f32⟩
  | 62 => ⟨S1000x7x7, .f32⟩
  | 63 => ⟨S1000x7x7, .i32⟩
  | 64 => ⟨S_, .i32⟩
  | 65 => ⟨S1000x1x1, .i32⟩
  | 66 => ⟨S1000x1x1, .i1⟩
  | 67 => ⟨S_, .i32⟩
  | 68 => ⟨S1000x1x1, .i32⟩
  | 69 => ⟨S1000x1x1, .i32⟩
  | 70 => ⟨S1000x1x1, .i32⟩
  | 71 => ⟨S_, .i32⟩
  | 72 => ⟨S1000x7x7, .i32⟩
  | 73 => ⟨S1000x7x7, .i1⟩
  | 74 => ⟨S_, .i32⟩
  | 75 => ⟨S1000x7x7, .i32⟩
  | 76 => ⟨S1000x7x7, .i32⟩
  | 77 => ⟨S1000x7x7, .i32⟩
  | 78 => ⟨S_, .i32⟩
  | 79 => ⟨S1000x7x7, .i32⟩
  | 80 => ⟨S1000x7x7, .i1⟩
  | 81 => ⟨S_, .i32⟩
  | 82 => ⟨S1000x7x7, .i32⟩
  | 83 => ⟨S1000x7x7, .i32⟩
  | 84 => ⟨S1000x7x7, .i32⟩
  | 85 => ⟨S1000x7x7, .i32⟩
  | 86 => ⟨S1000x7x7x1, .i32⟩
  | 87 => ⟨S1000x7x7x1, .i32⟩
  | 88 => ⟨S1000x7x7x1, .i32⟩
  | 89 => ⟨S1000x7x7x3, .i32⟩
  | 90 => ⟨S1000x7x7x384, .f32⟩
  | 91 => ⟨S1000x7x7x1, .i1⟩
  | 92 => ⟨S1000x7x7x1, .f32⟩
  | 93 => ⟨S1000x7x7x384, .f32⟩
  | 94 => ⟨S1000x7x7x384, .f32⟩
  | 95 => ⟨S_, .f32⟩
  | 96 => ⟨S1000x7x7, .f32⟩
  | 97 => ⟨S1000x7x7, .i1⟩
  | 98 => ⟨S_, .f32⟩
  | 99 => ⟨S1000x7x7, .f32⟩
  | 100 => ⟨S1000x7x7, .i1⟩
  | 101 => ⟨S1000x7x7, .i1⟩
  | 102 => ⟨S_, .f32⟩
  | 103 => ⟨S1000x7x7, .f32⟩
  | 104 => ⟨S1000x7x7, .i1⟩
  | 105 => ⟨S1000x7x7, .i1⟩
  | 106 => ⟨S_, .f32⟩
  | 107 => ⟨S1000x7x7, .f32⟩
  | 108 => ⟨S1000x7x7, .i1⟩
  | 109 => ⟨S1000x7x7, .i1⟩
  | 110 => ⟨S_, .i32⟩
  | 111 => ⟨S_, .i32⟩
  | 112 => ⟨S_, .f32⟩
  | 113 => ⟨S1000x7x7, .f32⟩
  | 114 => ⟨S1000x7x7, .f32⟩
  | 115 => ⟨S_, .f32⟩
  | 116 => ⟨S1000x7x7, .f32⟩
  | 117 => ⟨S1000x7x7, .f32⟩
  | 118 => ⟨S1000x7x7, .i32⟩
  | 119 => ⟨S_, .i32⟩
  | 120 => ⟨S_, .i32⟩
  | 121 => ⟨S_, .f32⟩
  | 122 => ⟨S1000x7x7, .f32⟩
  | 123 => ⟨S1000x7x7, .f32⟩
  | 124 => ⟨S_, .f32⟩
  | 125 => ⟨S1000x7x7, .f32⟩
  | 126 => ⟨S1000x7x7, .f32⟩
  | 127 => ⟨S1000x7x7, .i32⟩
  | _ => ⟨S2x384x64x64, .f32⟩

abbrev hbmTy0_2 (i : Nat) : BufTy := match i % 128 with
  | 0 => ⟨S_, .i32⟩
  | 1 => ⟨S1000x1x1, .i32⟩
  | 2 => ⟨S1000x1x1, .i1⟩
  | 3 => ⟨S_, .i32⟩
  | 4 => ⟨S1000x1x1, .i32⟩
  | 5 => ⟨S1000x1x1, .i32⟩
  | 6 => ⟨S1000x1x1, .i32⟩
  | 7 => ⟨S_, .i32⟩
  | 8 => ⟨S1000x7x7, .i32⟩
  | 9 => ⟨S1000x7x7, .i1⟩
  | 10 => ⟨S_, .i32⟩
  | 11 => ⟨S1000x7x7, .i32⟩
  | 12 => ⟨S1000x7x7, .i32⟩
  | 13 => ⟨S1000x7x7, .i32⟩
  | 14 => ⟨S_, .i32⟩
  | 15 => ⟨S1000x7x7, .i32⟩
  | 16 => ⟨S1000x7x7, .i1⟩
  | 17 => ⟨S_, .i32⟩
  | 18 => ⟨S1000x7x7, .i32⟩
  | 19 => ⟨S1000x7x7, .i32⟩
  | 20 => ⟨S1000x7x7, .i32⟩
  | 21 => ⟨S1000x7x7, .i32⟩
  | 22 => ⟨S1000x7x7x1, .i32⟩
  | 23 => ⟨S1000x7x7x1, .i32⟩
  | 24 => ⟨S1000x7x7x1, .i32⟩
  | 25 => ⟨S1000x7x7x3, .i32⟩
  | 26 => ⟨S1000x7x7x384, .f32⟩
  | 27 => ⟨S1000x7x7x1, .i1⟩
  | 28 => ⟨S1000x7x7x1, .f32⟩
  | 29 => ⟨S1000x7x7x384, .f32⟩
  | 30 => ⟨S1000x7x7x384, .f32⟩
  | 31 => ⟨S_, .f32⟩
  | 32 => ⟨S1000x7x7, .f32⟩
  | 33 => ⟨S1000x7x7, .i1⟩
  | 34 => ⟨S_, .f32⟩
  | 35 => ⟨S1000x7x7, .f32⟩
  | 36 => ⟨S1000x7x7, .i1⟩
  | 37 => ⟨S1000x7x7, .i1⟩
  | 38 => ⟨S_, .f32⟩
  | 39 => ⟨S1000x7x7, .f32⟩
  | 40 => ⟨S1000x7x7, .i1⟩
  | 41 => ⟨S1000x7x7, .i1⟩
  | 42 => ⟨S_, .f32⟩
  | 43 => ⟨S1000x7x7, .f32⟩
  | 44 => ⟨S1000x7x7, .i1⟩
  | 45 => ⟨S1000x7x7, .i1⟩
  | 46 => ⟨S_, .i32⟩
  | 47 => ⟨S_, .i32⟩
  | 48 => ⟨S_, .f32⟩
  | 49 => ⟨S1000x7x7, .f32⟩
  | 50 => ⟨S1000x7x7, .f32⟩
  | 51 => ⟨S_, .f32⟩
  | 52 => ⟨S1000x7x7, .f32⟩
  | 53 => ⟨S1000x7x7, .f32⟩
  | 54 => ⟨S1000x7x7, .i32⟩
  | 55 => ⟨S_, .i32⟩
  | 56 => ⟨S_, .i32⟩
  | 57 => ⟨S_, .f32⟩
  | 58 => ⟨S1000x7x7, .f32⟩
  | 59 => ⟨S1000x7x7, .f32⟩
  | 60 => ⟨S_, .f32⟩
  | 61 => ⟨S1000x7x7, .f32⟩
  | 62 => ⟨S1000x7x7, .f32⟩
  | 63 => ⟨S1000x7x7, .i32⟩
  | 64 => ⟨S_, .i32⟩
  | 65 => ⟨S1000x1x1, .i32⟩
  | 66 => ⟨S1000x1x1, .i1⟩
  | 67 => ⟨S_, .i32⟩
  | 68 => ⟨S1000x1x1, .i32⟩
  | 69 => ⟨S1000x1x1, .i32⟩
  | 70 => ⟨S1000x1x1, .i32⟩
  | 71 => ⟨S_, .i32⟩
  | 72 => ⟨S1000x7x7, .i32⟩
  | 73 => ⟨S1000x7x7, .i1⟩
  | 74 => ⟨S_, .i32⟩
  | 75 => ⟨S1000x7x7, .i32⟩
  | 76 => ⟨S1000x7x7, .i32⟩
  | 77 => ⟨S1000x7x7, .i32⟩
  | 78 => ⟨S_, .i32⟩
  | 79 => ⟨S1000x7x7, .i32⟩
  | 80 => ⟨S1000x7x7, .i1⟩
  | 81 => ⟨S_, .i32⟩
  | 82 => ⟨S1000x7x7, .i32⟩
  | 83 => ⟨S1000x7x7, .i32⟩
  | 84 => ⟨S1000x7x7, .i32⟩
  | 85 => ⟨S1000x7x7, .i32⟩
  | 86 => ⟨S1000x7x7x1, .i32⟩
  | 87 => ⟨S1000x7x7x1, .i32⟩
  | 88 => ⟨S1000x7x7x1, .i32⟩
  | 89 => ⟨S1000x7x7x3, .i32⟩
  | 90 => ⟨S1000x7x7x384, .f32⟩
  | 91 => ⟨S1000x7x7x1, .i1⟩
  | 92 => ⟨S1000x7x7x1, .f32⟩
  | 93 => ⟨S1000x7x7x384, .f32⟩
  | 94 => ⟨S1000x7x7x384, .f32⟩
  | 95 => ⟨S_, .f32⟩
  | 96 => ⟨S1000x7x7, .f32⟩
  | 97 => ⟨S1000x7x7, .i1⟩
  | 98 => ⟨S_, .f32⟩
  | 99 => ⟨S1000x7x7, .f32⟩
  | 100 => ⟨S1000x7x7, .i1⟩
  | 101 => ⟨S1000x7x7, .i1⟩
  | 102 => ⟨S_, .f32⟩
  | 103 => ⟨S1000x7x7, .f32⟩
  | 104 => ⟨S1000x7x7, .i1⟩
  | 105 => ⟨S1000x7x7, .i1⟩
  | 106 => ⟨S_, .f32⟩
  | 107 => ⟨S1000x7x7, .f32⟩
  | 108 => ⟨S1000x7x7, .i1⟩
  | 109 => ⟨S1000x7x7, .i1⟩
  | 110 => ⟨S_, .i32⟩
  | 111 => ⟨S_, .i32⟩
  | 112 => ⟨S_, .f32⟩
  | 113 => ⟨S1000x7x7, .f32⟩
  | 114 => ⟨S1000x7x7, .f32⟩
  | 115 => ⟨S_, .f32⟩
  | 116 => ⟨S1000x7x7, .f32⟩
  | 117 => ⟨S1000x7x7, .f32⟩
  | 118 => ⟨S1000x7x7, .i32⟩
  | 119 => ⟨S_, .i32⟩
  | 120 => ⟨S_, .i32⟩
  | 121 => ⟨S_, .f32⟩
  | 122 => ⟨S1000x7x7, .f32⟩
  | 123 => ⟨S1000x7x7, .f32⟩
  | 124 => ⟨S_, .f32⟩
  | 125 => ⟨S1000x7x7, .f32⟩
  | 126 => ⟨S1000x7x7, .f32⟩
  | 127 => ⟨S1000x7x7, .i32⟩
  | _ => ⟨S2x384x64x64, .f32⟩

abbrev hbmTy0_3 (i : Nat) : BufTy := match i % 128 with
  | 0 => ⟨S_, .i32⟩
  | 1 => ⟨S1000x1x1, .i32⟩
  | 2 => ⟨S1000x1x1, .i1⟩
  | 3 => ⟨S_, .i32⟩
  | 4 => ⟨S1000x1x1, .i32⟩
  | 5 => ⟨S1000x1x1, .i32⟩
  | 6 => ⟨S1000x1x1, .i32⟩
  | 7 => ⟨S_, .i32⟩
  | 8 => ⟨S1000x7x7, .i32⟩
  | 9 => ⟨S1000x7x7, .i1⟩
  | 10 => ⟨S_, .i32⟩
  | 11 => ⟨S1000x7x7, .i32⟩
  | 12 => ⟨S1000x7x7, .i32⟩
  | 13 => ⟨S1000x7x7, .i32⟩
  | 14 => ⟨S_, .i32⟩
  | 15 => ⟨S1000x7x7, .i32⟩
  | 16 => ⟨S1000x7x7, .i1⟩
  | 17 => ⟨S_, .i32⟩
  | 18 => ⟨S1000x7x7, .i32⟩
  | 19 => ⟨S1000x7x7, .i32⟩
  | 20 => ⟨S1000x7x7, .i32⟩
  | 21 => ⟨S1000x7x7, .i32⟩
  | 22 => ⟨S1000x7x7x1, .i32⟩
  | 23 => ⟨S1000x7x7x1, .i32⟩
  | 24 => ⟨S1000x7x7x1, .i32⟩
  | 25 => ⟨S1000x7x7x3, .i32⟩
  | 26 => ⟨S1000x7x7x384, .f32⟩
  | 27 => ⟨S1000x7x7x1, .i1⟩
  | 28 => ⟨S1000x7x7x1, .f32⟩
  | 29 => ⟨S1000x7x7x384, .f32⟩
  | 30 => ⟨S1000x7x7x384, .f32⟩
  | 31 => ⟨S1000x7x7, .f32⟩
  | 32 => ⟨S1000x7x7x1, .f32⟩
  | 33 => ⟨S1000x7x7x384, .f32⟩
  | 34 => ⟨S1000x7x7x384, .f32⟩
  | 35 => ⟨S1000x7x7, .f32⟩
  | 36 => ⟨S1000x7x7x1, .f32⟩
  | 37 => ⟨S1000x7x7x384, .f32⟩
  | 38 => ⟨S1000x7x7x384, .f32⟩
  | 39 => ⟨S1000x7x7x384, .f32⟩
  | 40 => ⟨S1000x7x7, .f32⟩
  | 41 => ⟨S1000x7x7x1, .f32⟩
  | 42 => ⟨S1000x7x7x384, .f32⟩
  | 43 => ⟨S1000x7x7x384, .f32⟩
  | 44 => ⟨S1000x7x7x384, .f32⟩
  | 45 => ⟨S1000x7x7, .f32⟩
  | 46 => ⟨S1000x7x7x1, .f32⟩
  | 47 => ⟨S1000x7x7x384, .f32⟩
  | 48 => ⟨S1000x7x7x384, .f32⟩
  | 49 => ⟨S1000x7x7x384, .f32⟩
  | 50 => ⟨S1000x384x7x7, .f32⟩
  | _ => ⟨S2x384x64x64, .f32⟩

abbrev hbmTy (i : Nat) : BufTy := match i / 128 with
  | 0 => hbmTy0_0 i
  | 1 => hbmTy0_1 i
  | 2 => hbmTy0_2 i
  | 3 => hbmTy0_3 i
  | _ => ⟨S2x384x64x64, .f32⟩

abbrev bufTy : (tb : Table) → Fin (tcTables nBuf tb) → BufTy
  | .hbm, ⟨i, _⟩ => hbmTy i
  | _, _ => ⟨S2x384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_cst_14 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_15 : Ref sig .tc := ⟨.hbm, 76, rfl⟩
abbrev main_v58 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_v61 : Ref sig .tc := ⟨.hbm, 81, rfl⟩
abbrev main_cst_17 : Ref sig .tc := ⟨.hbm, 82, rfl⟩
abbrev main_v62 : Ref sig .tc := ⟨.hbm, 83, rfl⟩
abbrev main_v63 : Ref sig .tc := ⟨.hbm, 84, rfl⟩
abbrev main_cst_18 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_19 : Ref sig .tc := ⟨.hbm, 118, rfl⟩
abbrev main_v96 : Ref sig .tc := ⟨.hbm, 119, rfl⟩
abbrev main_v97 : Ref sig .tc := ⟨.hbm, 120, rfl⟩
abbrev main_cst_20 : Ref sig .tc := ⟨.hbm, 121, rfl⟩
abbrev main_v98 : Ref sig .tc := ⟨.hbm, 122, rfl⟩
abbrev main_v99 : Ref sig .tc := ⟨.hbm, 123, rfl⟩
abbrev main_cst_21 : Ref sig .tc := ⟨.hbm, 124, rfl⟩
abbrev main_v100 : Ref sig .tc := ⟨.hbm, 125, rfl⟩
abbrev main_v101 : Ref sig .tc := ⟨.hbm, 126, rfl⟩
abbrev main_cst_22 : Ref sig .tc := ⟨.hbm, 127, rfl⟩
abbrev main_v102 : Ref sig .tc := ⟨.hbm, 128, rfl⟩
abbrev main_v103 : Ref sig .tc := ⟨.hbm, 129, rfl⟩
abbrev main_cst_23 : Ref sig .tc := ⟨.hbm, 130, rfl⟩
abbrev main_v104 : Ref sig .tc := ⟨.hbm, 131, rfl⟩
abbrev main_v105 : Ref sig .tc := ⟨.hbm, 132, rfl⟩
abbrev main_cst_24 : Ref sig .tc := ⟨.hbm, 133, rfl⟩
abbrev main_v106 : Ref sig .tc := ⟨.hbm, 134, rfl⟩
abbrev main_v107 : Ref sig .tc := ⟨.hbm, 135, rfl⟩
abbrev main_cst_25 : Ref sig .tc := ⟨.hbm, 136, rfl⟩
abbrev main_v108 : Ref sig .tc := ⟨.hbm, 137, rfl⟩
abbrev main_v109 : Ref sig .tc := ⟨.hbm, 138, rfl⟩
abbrev main_cst_26 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_27 : Ref sig .tc := ⟨.hbm, 144, rfl⟩
abbrev main_v114 : Ref sig .tc := ⟨.hbm, 145, rfl⟩
abbrev main_v115 : Ref sig .tc := ⟨.hbm, 146, rfl⟩
abbrev main_cst_28 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_29 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_30 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_31 : Ref sig .tc := ⟨.hbm, 159, rfl⟩
abbrev main_v125 : Ref sig .tc := ⟨.hbm, 160, rfl⟩
abbrev main_v126 : Ref sig .tc := ⟨.hbm, 161, rfl⟩
abbrev main_cst_32 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_33 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_34 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c : Ref sig .tc := ⟨.hbm, 174, rfl⟩
abbrev main_c_35 : Ref sig .tc := ⟨.hbm, 175, rfl⟩
abbrev main_call0_v0 : Ref sig .tc := ⟨.hbm, 176, rfl⟩
abbrev main_call0_v1 : Ref sig .tc := ⟨.hbm, 177, rfl⟩
abbrev main_call0_v2 : Ref sig .tc := ⟨.hbm, 178, rfl⟩
abbrev main_call0_v3 : Ref sig .tc := ⟨.hbm, 179, rfl⟩
abbrev main_call0_v4 : Ref sig .tc := ⟨.hbm, 180, rfl⟩
abbrev main_v136 : Ref sig .tc := ⟨.hbm, 181, rfl⟩
abbrev main_v137 : Ref sig .tc := ⟨.hbm, 182, rfl⟩
abbrev main_c_36 : Ref sig .tc := ⟨.hbm, 183, rfl⟩
abbrev main_c_37 : Ref sig .tc := ⟨.hbm, 184, rfl⟩
abbrev main_call1_v0 : Ref sig .tc := ⟨.hbm, 185, rfl⟩
abbrev main_call1_v1 : Ref sig .tc := ⟨.hbm, 186, rfl⟩
abbrev main_call1_v2 : Ref sig .tc := ⟨.hbm, 187, rfl⟩
abbrev main_call1_v3 : Ref sig .tc := ⟨.hbm, 188, rfl⟩
abbrev main_call1_v4 : Ref sig .tc := ⟨.hbm, 189, rfl⟩
abbrev main_v138 : Ref sig .tc := ⟨.hbm, 190, rfl⟩
abbrev main_v139 : Ref sig .tc := ⟨.hbm, 191, rfl⟩
abbrev main_c_38 : Ref sig .tc := ⟨.hbm, 192, rfl⟩
abbrev main_v140 : Ref sig .tc := ⟨.hbm, 193, rfl⟩
abbrev main_v141 : Ref sig .tc := ⟨.hbm, 194, rfl⟩
abbrev main_c_39 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_c_40 : Ref sig .tc := ⟨.hbm, 199, rfl⟩
abbrev main_v145 : Ref sig .tc := ⟨.hbm, 200, rfl⟩
abbrev main_v146 : Ref sig .tc := ⟨.hbm, 201, rfl⟩
abbrev main_c_41 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_c_42 : Ref sig .tc := ⟨.hbm, 206, rfl⟩
abbrev main_v150 : Ref sig .tc := ⟨.hbm, 207, rfl⟩
abbrev main_v151 : Ref sig .tc := ⟨.hbm, 208, rfl⟩
abbrev main_c_43 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_44 : Ref sig .tc := ⟨.hbm, 223, rfl⟩
abbrev main_v165 : Ref sig .tc := ⟨.hbm, 224, rfl⟩
abbrev main_v166 : Ref sig .tc := ⟨.hbm, 225, rfl⟩
abbrev main_cst_45 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_46 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_47 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_c_48 : Ref sig .tc := ⟨.hbm, 238, rfl⟩
abbrev main_c_49 : Ref sig .tc := ⟨.hbm, 239, rfl⟩
abbrev main_call2_v0 : Ref sig .tc := ⟨.hbm, 240, rfl⟩
abbrev main_call2_v1 : Ref sig .tc := ⟨.hbm, 241, rfl⟩
abbrev main_call2_v2 : Ref sig .tc := ⟨.hbm, 242, rfl⟩
abbrev main_call2_v3 : Ref sig .tc := ⟨.hbm, 243, rfl⟩
abbrev main_call2_v4 : Ref sig .tc := ⟨.hbm, 244, rfl⟩
abbrev main_v176 : Ref sig .tc := ⟨.hbm, 245, rfl⟩
abbrev main_v177 : Ref sig .tc := ⟨.hbm, 246, rfl⟩
abbrev main_c_50 : Ref sig .tc := ⟨.hbm, 247, rfl⟩
abbrev main_c_51 : Ref sig .tc := ⟨.hbm, 248, rfl⟩
abbrev main_call3_v0 : Ref sig .tc := ⟨.hbm, 249, rfl⟩
abbrev main_call3_v1 : Ref sig .tc := ⟨.hbm, 250, rfl⟩
abbrev main_call3_v2 : Ref sig .tc := ⟨.hbm, 251, rfl⟩
abbrev main_call3_v3 : Ref sig .tc := ⟨.hbm, 252, rfl⟩
abbrev main_call3_v4 : Ref sig .tc := ⟨.hbm, 253, rfl⟩
abbrev main_v178 : Ref sig .tc := ⟨.hbm, 254, rfl⟩
abbrev main_v179 : Ref sig .tc := ⟨.hbm, 255, rfl⟩
abbrev main_c_52 : Ref sig .tc := ⟨.hbm, 256, rfl⟩
abbrev main_v180 : Ref sig .tc := ⟨.hbm, 257, rfl⟩
abbrev main_v181 : Ref sig .tc := ⟨.hbm, 258, rfl⟩
abbrev main_c_53 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_c_54 : Ref sig .tc := ⟨.hbm, 263, rfl⟩
abbrev main_v185 : Ref sig .tc := ⟨.hbm, 264, rfl⟩
abbrev main_v186 : Ref sig .tc := ⟨.hbm, 265, rfl⟩
abbrev main_c_55 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_c_56 : Ref sig .tc := ⟨.hbm, 270, rfl⟩
abbrev main_v190 : Ref sig .tc := ⟨.hbm, 271, rfl⟩
abbrev main_v191 : Ref sig .tc := ⟨.hbm, 272, rfl⟩
abbrev main_c_57 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_cst_58 : Ref sig .tc := ⟨.hbm, 287, rfl⟩
abbrev main_v205 : Ref sig .tc := ⟨.hbm, 288, rfl⟩
abbrev main_v206 : Ref sig .tc := ⟨.hbm, 289, rfl⟩
abbrev main_cst_59 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_cst_60 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_cst_61 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_c_62 : Ref sig .tc := ⟨.hbm, 302, rfl⟩
abbrev main_c_63 : Ref sig .tc := ⟨.hbm, 303, rfl⟩
abbrev main_call4_v0 : Ref sig .tc := ⟨.hbm, 304, rfl⟩
abbrev main_call4_v1 : Ref sig .tc := ⟨.hbm, 305, rfl⟩
abbrev main_call4_v2 : Ref sig .tc := ⟨.hbm, 306, rfl⟩
abbrev main_call4_v3 : Ref sig .tc := ⟨.hbm, 307, rfl⟩
abbrev main_call4_v4 : Ref sig .tc := ⟨.hbm, 308, rfl⟩
abbrev main_v216 : Ref sig .tc := ⟨.hbm, 309, rfl⟩
abbrev main_v217 : Ref sig .tc := ⟨.hbm, 310, rfl⟩
abbrev main_c_64 : Ref sig .tc := ⟨.hbm, 311, rfl⟩
abbrev main_c_65 : Ref sig .tc := ⟨.hbm, 312, rfl⟩
abbrev main_call5_v0 : Ref sig .tc := ⟨.hbm, 313, rfl⟩
abbrev main_call5_v1 : Ref sig .tc := ⟨.hbm, 314, rfl⟩
abbrev main_call5_v2 : Ref sig .tc := ⟨.hbm, 315, rfl⟩
abbrev main_call5_v3 : Ref sig .tc := ⟨.hbm, 316, rfl⟩
abbrev main_call5_v4 : Ref sig .tc := ⟨.hbm, 317, rfl⟩
abbrev main_v218 : Ref sig .tc := ⟨.hbm, 318, rfl⟩
abbrev main_v219 : Ref sig .tc := ⟨.hbm, 319, rfl⟩
abbrev main_c_66 : Ref sig .tc := ⟨.hbm, 320, rfl⟩
abbrev main_v220 : Ref sig .tc := ⟨.hbm, 321, rfl⟩
abbrev main_v221 : Ref sig .tc := ⟨.hbm, 322, rfl⟩
abbrev main_c_67 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_c_68 : Ref sig .tc := ⟨.hbm, 327, rfl⟩
abbrev main_v225 : Ref sig .tc := ⟨.hbm, 328, rfl⟩
abbrev main_v226 : Ref sig .tc := ⟨.hbm, 329, rfl⟩
abbrev main_c_69 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_c_70 : Ref sig .tc := ⟨.hbm, 334, rfl⟩
abbrev main_v230 : Ref sig .tc := ⟨.hbm, 335, rfl⟩
abbrev main_v231 : Ref sig .tc := ⟨.hbm, 336, rfl⟩
abbrev main_c_71 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_cst_72 : Ref sig .tc := ⟨.hbm, 351, rfl⟩
abbrev main_v245 : Ref sig .tc := ⟨.hbm, 352, rfl⟩
abbrev main_v246 : Ref sig .tc := ⟨.hbm, 353, rfl⟩
abbrev main_cst_73 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_cst_74 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_cst_75 : Ref sig .tc := ⟨.hbm, 362, rfl⟩
abbrev main_v253 : Ref sig .tc := ⟨.hbm, 363, rfl⟩
abbrev main_v254 : Ref sig .tc := ⟨.hbm, 364, rfl⟩
abbrev main_v255 : Ref sig .tc := ⟨.hbm, 365, rfl⟩
abbrev main_c_76 : Ref sig .tc := ⟨.hbm, 366, rfl⟩
abbrev main_c_77 : Ref sig .tc := ⟨.hbm, 367, rfl⟩
abbrev main_call6_v0 : Ref sig .tc := ⟨.hbm, 368, rfl⟩
abbrev main_call6_v1 : Ref sig .tc := ⟨.hbm, 369, rfl⟩
abbrev main_call6_v2 : Ref sig .tc := ⟨.hbm, 370, rfl⟩
abbrev main_call6_v3 : Ref sig .tc := ⟨.hbm, 371, rfl⟩
abbrev main_call6_v4 : Ref sig .tc := ⟨.hbm, 372, rfl⟩
abbrev main_v256 : Ref sig .tc := ⟨.hbm, 373, rfl⟩
abbrev main_v257 : Ref sig .tc := ⟨.hbm, 374, rfl⟩
abbrev main_c_78 : Ref sig .tc := ⟨.hbm, 375, rfl⟩
abbrev main_c_79 : Ref sig .tc := ⟨.hbm, 376, rfl⟩
abbrev main_call7_v0 : Ref sig .tc := ⟨.hbm, 377, rfl⟩
abbrev main_call7_v1 : Ref sig .tc := ⟨.hbm, 378, rfl⟩
abbrev main_call7_v2 : Ref sig .tc := ⟨.hbm, 379, rfl⟩
abbrev main_call7_v3 : Ref sig .tc := ⟨.hbm, 380, rfl⟩
abbrev main_call7_v4 : Ref sig .tc := ⟨.hbm, 381, rfl⟩
abbrev main_v258 : Ref sig .tc := ⟨.hbm, 382, rfl⟩
abbrev main_v259 : Ref sig .tc := ⟨.hbm, 383, rfl⟩
abbrev main_c_80 : Ref sig .tc := ⟨.hbm, 384, rfl⟩
abbrev main_v260 : Ref sig .tc := ⟨.hbm, 385, rfl⟩
abbrev main_v261 : Ref sig .tc := ⟨.hbm, 386, rfl⟩
abbrev main_c_81 : Ref sig .tc := ⟨.hbm, 387, rfl⟩
abbrev main_v262 : Ref sig .tc := ⟨.hbm, 388, rfl⟩
abbrev main_v263 : Ref sig .tc := ⟨.hbm, 389, rfl⟩
abbrev main_v264 : Ref sig .tc := ⟨.hbm, 390, rfl⟩
abbrev main_c_82 : Ref sig .tc := ⟨.hbm, 391, rfl⟩
abbrev main_v265 : Ref sig .tc := ⟨.hbm, 392, rfl⟩
abbrev main_v266 : Ref sig .tc := ⟨.hbm, 393, rfl⟩
abbrev main_c_83 : Ref sig .tc := ⟨.hbm, 394, rfl⟩
abbrev main_v267 : Ref sig .tc := ⟨.hbm, 395, rfl⟩
abbrev main_v268 : Ref sig .tc := ⟨.hbm, 396, rfl⟩
abbrev main_v269 : Ref sig .tc := ⟨.hbm, 397, rfl⟩
abbrev main_c_84 : Ref sig .tc := ⟨.hbm, 398, rfl⟩
abbrev main_v270 : Ref sig .tc := ⟨.hbm, 399, rfl⟩
abbrev main_v271 : Ref sig .tc := ⟨.hbm, 400, rfl⟩
abbrev main_c_85 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_v288 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_v295 : Ref sig .tc := ⟨.hbm, 425, rfl⟩
abbrev main_v296 : Ref sig .tc := ⟨.hbm, 426, rfl⟩
abbrev main_v297 : Ref sig .tc := ⟨.hbm, 427, rfl⟩
abbrev main_v298 : Ref sig .tc := ⟨.hbm, 428, rfl⟩
abbrev main_v299 : Ref sig .tc := ⟨.hbm, 429, rfl⟩
abbrev main_v300 : Ref sig .tc := ⟨.hbm, 430, rfl⟩
abbrev main_v301 : Ref sig .tc := ⟨.hbm, 431, rfl⟩
abbrev main_v302 : Ref sig .tc := ⟨.hbm, 432, rfl⟩
abbrev main_v303 : Ref sig .tc := ⟨.hbm, 433, rfl⟩
abbrev main_v304 : Ref sig .tc := ⟨.hbm, 434, rfl⟩

abbrev nD : Nat := 1
abbrev τ : Topo := Topo.v7x

variable {F : FTy → Type} [FloatOps F]
-- ==== Proof.KernelIdeal.Ring.lean ====
/- The kernel's write ring, as resources. Grid step `u` (of 7) computes seven rows of the result into slot `u % 2` of a
   two-slot scratch and starts two copies out of it, rows 0–3 and rows 4–6, each counted on its own semaphore; the copies
   of step `u` are waited for at step `u + 2`, those of the last two steps at the last step. This module names a slot's two
   halves (`halfA`, `halfB`), the two parts of the result each step writes (`partA`, `partB`) and the four semaphores
   (`semA`, `semB`), states the ring over them, and proves that the addresses the body computes are these. -/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.FrameSuffixV
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

/-! ## The body's operands -/

/-- The staged proposals at step `t`. -/
abbrev propsRef (t : Fin cfg0.N) : Memref sig .tc .vmem S5x1000 .f32 := win0_0.stage (cfg0.slots t 0)
/-- The staged corner of the feature map at step `t`. -/
abbrev mapRef (t : Fin cfg0.N) : Memref sig .tc .vmem S2x4x8x384 .f32 := win0_1.stage (cfg0.slots t 1)
/-- The two-slot scratch, whole. -/
abbrev scratch : Memref sig .tc .vmem S2x7x1000x384 .f32 := Memref.whole cc0_scratch0
/-- The result in HBM, whole. -/
abbrev result : Memref sig .tc .hbm S49x1000x384 .f32 := Memref.whole main_v3

/-! ## The halves of a slot, the parts of the result, the semaphores -/

theorem halfA_in (g : Fin 2) : ∀ a, (![g.val, 0, 0, 0] : Fin 4 → Nat) a + S1x4x1000x384.size a ≤ S2x7x1000x384.size a := by
  have := g.isLt; intro a; fin_cases a <;> simp <;> omega
theorem halfB_in (g : Fin 2) : ∀ a, (![g.val, 4, 0, 0] : Fin 4 → Nat) a + S1x3x1000x384.size a ≤ S2x7x1000x384.size a := by
  have := g.isLt; intro a; fin_cases a <;> simp <;> omega
theorem partA_in (u : Fin 7) : ∀ a, (![7 * u.val, 0, 0] : Fin 3 → Nat) a + S4x1000x384.size a ≤ S49x1000x384.size a := by
  have := u.isLt; intro a; fin_cases a <;> simp <;> omega
theorem partB_in (u : Fin 7) : ∀ a, (![7 * u.val + 4, 0, 0] : Fin 3 → Nat) a + S3x1000x384.size a ≤ S49x1000x384.size a := by
  have := u.isLt; intro a; fin_cases a <;> simp <;> omega
theorem piece_in (u : Fin 7) : ∀ a, (![7 * u.val, 0, 0] : Fin 3 → Nat) a + S7x1000x384.size a ≤ S49x1000x384.size a := by
  have := u.isLt; intro a; fin_cases a <;> simp <;> omega
theorem slot_in (g : Fin 2) : ∀ a, (![g.val, 0, 0, 0] : Fin 4 → Nat) a + S1x7x1000x384.size a ≤ S2x7x1000x384.size a := by
  have := g.isLt; intro a; fin_cases a <;> simp <;> omega
theorem sem_in (g : Fin 2) (j : Fin 2) : ∀ a, (![g.val, j.val] : Fin 2 → Nat) a + S1x1.size a ≤ S2x2.size a := by
  have := g.isLt; have := j.isLt; intro a; fin_cases a <;> simp <;> omega

/-- Slot `g`, all seven rows. -/
def slot (g : Fin 2) : Memref sig .tc .vmem S7x1000x384 .f32 :=
  (scratch.slice (Rect.unit (s := S2x7x1000x384) ![g.val, 0, 0, 0] S1x7x1000x384.size (slot_in g)) (fun _ => rfl)).squeeze S7x1000x384 squeezes_S1x7x1000x384_S7x1000x384
/-- Rows 0–3 of slot `g`. -/
def halfA (g : Fin 2) : Memref sig .tc .vmem S4x1000x384 .f32 :=
  (scratch.slice (Rect.unit (s := S2x7x1000x384) ![g.val, 0, 0, 0] S1x4x1000x384.size (halfA_in g)) (fun _ => rfl)).squeeze S4x1000x384 squeezes_S1x4x1000x384_S4x1000x384
/-- Rows 4–6 of slot `g`. -/
def halfB (g : Fin 2) : Memref sig .tc .vmem S3x1000x384 .f32 :=
  (scratch.slice (Rect.unit (s := S2x7x1000x384) ![g.val, 4, 0, 0] S1x3x1000x384.size (halfB_in g)) (fun _ => rfl)).squeeze S3x1000x384 squeezes_S1x3x1000x384_S3x1000x384
/-- The first four rows step `u` writes of the result. -/
def partA (u : Fin 7) : Memref sig .tc .hbm S4x1000x384 .f32 :=
  result.slice (Rect.unit (s := S49x1000x384) ![7 * u.val, 0, 0] S4x1000x384.size (partA_in u)) (fun _ => rfl)
/-- The last three rows step `u` writes of the result. -/
def partB (u : Fin 7) : Memref sig .tc .hbm S3x1000x384 .f32 :=
  result.slice (Rect.unit (s := S49x1000x384) ![7 * u.val + 4, 0, 0] S3x1000x384.size (partB_in u)) (fun _ => rfl)
/-- All seven rows step `u` writes of the result. -/
def piece (u : Fin 7) : Memref sig .tc .hbm S7x1000x384 .f32 :=
  result.slice (Rect.unit (s := S49x1000x384) ![7 * u.val, 0, 0] S7x1000x384.size (piece_in u)) (fun _ => rfl)
/-- Slot `g`'s semaphore for half `j`. -/
def semOf (g : Fin 2) (j : Fin 2) : DmaSems sig S_ :=
  (cc0_scratch1.slice (Rect.unit (s := S2x2) ![g.val, j.val] S1x1.size (sem_in g j))).squeeze S_ squeezes_S1x1_S_
abbrev semA (g : Fin 2) : SemLoc sig := SemLoc.dma (semOf g 0).sem
abbrev semB (g : Fin 2) : SemLoc sig := SemLoc.dma (semOf g 1).sem
theorem semA_0 : semA 0 = SemLoc.dma 2 := by decide
theorem semB_0 : semB 0 = SemLoc.dma 3 := by decide
theorem semA_1 : semA 1 = SemLoc.dma 4 := by decide
theorem semB_1 : semB 1 = SemLoc.dma 5 := by decide

/-! ## The sets of elements -/

theorem slot_set (g : Fin 2) : (slot g).view.set = (Rect.unit (s := S2x7x1000x384) ![g.val, 0, 0, 0] S1x7x1000x384.size (slot_in g)).set := by
  simp only [slot, Memref.view_squeeze, View.set_reshape]; exact View.set_slice_whole _ _
theorem halfA_set (g : Fin 2) : (halfA g).view.set = (Rect.unit (s := S2x7x1000x384) ![g.val, 0, 0, 0] S1x4x1000x384.size (halfA_in g)).set := by
  simp only [halfA, Memref.view_squeeze, View.set_reshape]; exact View.set_slice_whole _ _
theorem halfB_set (g : Fin 2) : (halfB g).view.set = (Rect.unit (s := S2x7x1000x384) ![g.val, 4, 0, 0] S1x3x1000x384.size (halfB_in g)).set := by
  simp only [halfB, Memref.view_squeeze, View.set_reshape]; exact View.set_slice_whole _ _
theorem piece_set (u : Fin 7) : (piece u).view.set = (Rect.unit (s := S49x1000x384) ![7 * u.val, 0, 0] S7x1000x384.size (piece_in u)).set := View.set_slice_whole _ _
theorem partA_set (u : Fin 7) : (partA u).view.set = (Rect.unit (s := S49x1000x384) ![7 * u.val, 0, 0] S4x1000x384.size (partA_in u)).set := View.set_slice_whole _ _
theorem partB_set (u : Fin 7) : (partB u).view.set = (Rect.unit (s := S49x1000x384) ![7 * u.val + 4, 0, 0] S3x1000x384.size (partB_in u)).set := View.set_slice_whole _ _

abbrev slotBox (g : Fin 2) : Finset S2x7x1000x384.Idx := (Rect.unit (s := S2x7x1000x384) ![g.val, 0, 0, 0] S1x7x1000x384.size (slot_in g)).set
abbrev halfABox (g : Fin 2) : Finset S2x7x1000x384.Idx := (Rect.unit (s := S2x7x1000x384) ![g.val, 0, 0, 0] S1x4x1000x384.size (halfA_in g)).set
abbrev halfBBox (g : Fin 2) : Finset S2x7x1000x384.Idx := (Rect.unit (s := S2x7x1000x384) ![g.val, 4, 0, 0] S1x3x1000x384.size (halfB_in g)).set
abbrev pieceBox (u : Fin 7) : Finset S49x1000x384.Idx := (Rect.unit (s := S49x1000x384) ![7 * u.val, 0, 0] S7x1000x384.size (piece_in u)).set
abbrev partABox (u : Fin 7) : Finset S49x1000x384.Idx := (Rect.unit (s := S49x1000x384) ![7 * u.val, 0, 0] S4x1000x384.size (partA_in u)).set
abbrev partBBox (u : Fin 7) : Finset S49x1000x384.Idx := (Rect.unit (s := S49x1000x384) ![7 * u.val + 4, 0, 0] S3x1000x384.size (partB_in u)).set

/-- Half A's elements are among the slot's; -/
theorem halfA_sub (g : Fin 2) : halfABox g ⊆ slotBox g := by
  intro i hi
  rw [Rect.mem_set_unit] at hi ⊢
  intro a; have := hi a
  fin_cases a <;> simp at this ⊢ <;> omega
/-- the rest of the slot is half B. -/
theorem halfB_rest (g : Fin 2) : slotBox g \ halfABox g = halfBBox g := by
  ext i
  rw [Finset.mem_sdiff, Rect.mem_set_unit, Rect.mem_set_unit, Rect.mem_set_unit]
  simp only [Fin.forall_fin_succ, Fin.isValue, IsEmpty.forall_iff, and_true]
  simp
  omega
/-- The first part of step `u`'s rows is among them; -/
theorem partA_sub (u : Fin 7) : partABox u ⊆ pieceBox u := by
  intro i hi
  rw [Rect.mem_set_unit] at hi ⊢
  intro a; have := hi a
  fin_cases a <;> simp at this ⊢ <;> omega
/-- the rest is the second part. -/
theorem partB_rest (u : Fin 7) : pieceBox u \ partABox u = partBBox u := by
  ext i
  rw [Finset.mem_sdiff, Rect.mem_set_unit, Rect.mem_set_unit, Rect.mem_set_unit]
  simp only [Fin.forall_fin_succ, Fin.isValue, IsEmpty.forall_iff, and_true]
  simp
  omega

/-! ## The branch conditions -/

/-- The first branch, waiting for the copies of two steps before, is taken from step 2 on. -/
theorem cond1_iff : ∀ t : Fin cfg0.N, k0_cond1 (grid0.coords t) = 1#1 ↔ 2 ≤ t.val :=
  (by decide +kernel : ∀ t : Fin grid0.N, k0_cond1 (grid0.coords t) = 1#1 ↔ 2 ≤ t.val)
/-- The second branch, draining the ring, is taken at the last step. -/
theorem cond2_iff : ∀ t : Fin cfg0.N, k0_cond2 (grid0.coords t) = 1#1 ↔ t.val = 6 :=
  (by decide +kernel : ∀ t : Fin grid0.N, k0_cond2 (grid0.coords t) = 1#1 ↔ t.val = 6)

/-! ## What the body's addresses are -/

section Canon
omit [FloatOps F] [Named F]

set_option synthInstance.maxSize 4096

theorem off7_at : ∀ t : Fin grid0.N, k0_off7 (grid0.coords t) = ![(Ring.sl 2 t.val).val, 0, 0, 0] := by decide +kernel
theorem off1_at : ∀ t : Fin grid0.N, k0_off1 (grid0.coords t) = ![(Ring.sl 2 t.val).val, 0] := by decide +kernel
theorem off3_at : ∀ t : Fin grid0.N, k0_off3 (grid0.coords t) = ![(Ring.sl 2 t.val).val, 0, 0, 0] := by decide +kernel
theorem off4_at : ∀ t : Fin grid0.N, k0_off4 (grid0.coords t) = ![(Ring.sl 2 t.val).val, 1] := by decide +kernel
theorem off6_at : ∀ t : Fin grid0.N, k0_off6 (grid0.coords t) = ![(Ring.sl 2 t.val).val, 4, 0, 0] := by decide +kernel
theorem off8_at : ∀ t : Fin grid0.N, k0_off8 (grid0.coords t) = ![(Ring.sl 2 t.val).val, 0] := by decide +kernel
theorem off9_at : ∀ t : Fin grid0.N, k0_off9 (grid0.coords t) = ![7 * (Ring.bk 7 t.val).val, 0, 0] := by decide +kernel
theorem off10_at : ∀ t : Fin grid0.N, k0_off10 (grid0.coords t) = ![(Ring.sl 2 t.val).val, 0, 0, 0] := by decide +kernel
theorem off11_at : ∀ t : Fin grid0.N, k0_off11 (grid0.coords t) = ![(Ring.sl 2 t.val).val, 1] := by decide +kernel
theorem off12_at : ∀ t : Fin grid0.N, k0_off12 (grid0.coords t) = ![7 * (Ring.bk 7 t.val).val + 4, 0, 0] := by decide +kernel
theorem off13_at : ∀ t : Fin grid0.N, k0_off13 (grid0.coords t) = ![(Ring.sl 2 t.val).val, 4, 0, 0] := by decide +kernel
theorem off14_at : ∀ t : Fin grid0.N, k0_off14 (grid0.coords t) = ![(Ring.sl 2 (t.val + 1)).val, 0] := by decide +kernel
theorem off16_at : ∀ t : Fin grid0.N, k0_off16 (grid0.coords t) = ![(Ring.sl 2 (t.val + 1)).val, 0, 0, 0] := by decide +kernel
theorem off17_at : ∀ t : Fin grid0.N, k0_off17 (grid0.coords t) = ![(Ring.sl 2 (t.val + 1)).val, 1] := by decide +kernel
theorem off19_at : ∀ t : Fin grid0.N, k0_off19 (grid0.coords t) = ![(Ring.sl 2 (t.val + 1)).val, 4, 0, 0] := by decide +kernel
theorem off20_at : ∀ t : Fin grid0.N, k0_off20 (grid0.coords t) = ![(Ring.sl 2 t.val).val, 0] := by decide +kernel
theorem off22_at : ∀ t : Fin grid0.N, k0_off22 (grid0.coords t) = ![(Ring.sl 2 t.val).val, 0, 0, 0] := by decide +kernel
theorem off23_at : ∀ t : Fin grid0.N, k0_off23 (grid0.coords t) = ![(Ring.sl 2 t.val).val, 1] := by decide +kernel
theorem off25_at : ∀ t : Fin grid0.N, k0_off25 (grid0.coords t) = ![(Ring.sl 2 t.val).val, 4, 0, 0] := by decide +kernel

/-- A cell of the semaphore array at offsets that are `![g, j]` is slot `g`'s semaphore `j`. -/
theorem sem_canon {off : Fin 2 → Nat} (g j : Fin 2) (h : off = ![g.val, j.val]) (inb : ∀ a, off a + S1x1.size a ≤ S2x2.size a) :
    (cc0_scratch1.slice (Rect.unit (s := S2x2) off S1x1.size inb)).squeeze S_ squeezes_S1x1_S_ = semOf g j := by
  subst h; rfl
/-- A four-row window of the scratch at `![g, 0, 0, 0]` is the first half of slot `g`. -/
theorem halfA_canon {off : Fin 4 → Nat} (g : Fin 2) (h : off = ![g.val, 0, 0, 0]) (inb : ∀ a, off a + S1x4x1000x384.size a ≤ S2x7x1000x384.size a) :
    (scratch.slice (Rect.unit (s := S2x7x1000x384) off S1x4x1000x384.size inb) (fun _ => rfl)).squeeze S4x1000x384 squeezes_S1x4x1000x384_S4x1000x384 = halfA g := by
  subst h; rfl
/-- A three-row window of the scratch at `![g, 4, 0, 0]` is the second half of slot `g`. -/
theorem halfB_canon {off : Fin 4 → Nat} (g : Fin 2) (h : off = ![g.val, 4, 0, 0]) (inb : ∀ a, off a + S1x3x1000x384.size a ≤ S2x7x1000x384.size a) :
    (scratch.slice (Rect.unit (s := S2x7x1000x384) off S1x3x1000x384.size inb) (fun _ => rfl)).squeeze S3x1000x384 squeezes_S1x3x1000x384_S3x1000x384 = halfB g := by
  subst h; rfl
/-- A seven-row window of the scratch at `![g, 0, 0, 0]` is slot `g`. -/
theorem slot_canon {off : Fin 4 → Nat} (g : Fin 2) (h : off = ![g.val, 0, 0, 0]) (inb : ∀ a, off a + S1x7x1000x384.size a ≤ S2x7x1000x384.size a) :
    (scratch.slice (Rect.unit (s := S2x7x1000x384) off S1x7x1000x384.size inb) (fun _ => rfl)).squeeze S7x1000x384 squeezes_S1x7x1000x384_S7x1000x384 = slot g := by
  subst h; rfl
/-- Four rows of the result from row `7 u` are step `u`'s first part. -/
theorem partA_canon {off : Fin 3 → Nat} (u : Fin 7) (h : off = ![7 * u.val, 0, 0]) (inb : ∀ a, off a + S4x1000x384.size a ≤ S49x1000x384.size a) :
    result.slice (Rect.unit (s := S49x1000x384) off S4x1000x384.size inb) (fun _ => rfl) = partA u := by
  subst h; rfl
/-- Three rows of the result from row `7 u + 4` are step `u`'s second part. -/
theorem partB_canon {off : Fin 3 → Nat} (u : Fin 7) (h : off = ![7 * u.val + 4, 0, 0]) (inb : ∀ a, off a + S3x1000x384.size a ≤ S49x1000x384.size a) :
    result.slice (Rect.unit (s := S49x1000x384) off S3x1000x384.size inb) (fun _ => rfl) = partB u := by
  subst h; rfl

@[sl_canon] theorem off8_canon (t : Fin grid0.N) :
    (cc0_scratch1.slice (Rect.unit (s := S2x2) (k0_off8 (grid0.coords t)) S1x1.size (k0_off8_inb (grid0.coords t)))).squeeze S_ squeezes_S1x1_S_ = semOf (Ring.sl 2 t.val) 0 := sem_canon (Ring.sl 2 t.val) 0 (off8_at t) (k0_off8_inb (grid0.coords t))
@[sl_canon] theorem off8_canon' (t : Fin grid0.N) :
    (cc0_scratch1.slice (Rect.unit (s := S2x2) (k0_off8 (grid0.coords t)) ![1, 1] (k0_off8_inb (grid0.coords t)))).squeeze S_ squeezes_S1x1_S_ = semOf (Ring.sl 2 t.val) 0 := sem_canon (Ring.sl 2 t.val) 0 (off8_at t) (k0_off8_inb (grid0.coords t))
@[sl_canon] theorem off11_canon (t : Fin grid0.N) :
    (cc0_scratch1.slice (Rect.unit (s := S2x2) (k0_off11 (grid0.coords t)) S1x1.size (k0_off11_inb (grid0.coords t)))).squeeze S_ squeezes_S1x1_S_ = semOf (Ring.sl 2 t.val) 1 := sem_canon (Ring.sl 2 t.val) 1 (off11_at t) (k0_off11_inb (grid0.coords t))
@[sl_canon] theorem off11_canon' (t : Fin grid0.N) :
    (cc0_scratch1.slice (Rect.unit (s := S2x2) (k0_off11 (grid0.coords t)) ![1, 1] (k0_off11_inb (grid0.coords t)))).squeeze S_ squeezes_S1x1_S_ = semOf (Ring.sl 2 t.val) 1 := sem_canon (Ring.sl 2 t.val) 1 (off11_at t) (k0_off11_inb (grid0.coords t))
@[sl_canon] theorem off10_canon (t : Fin grid0.N) :
    (scratch.slice (Rect.unit (s := S2x7x1000x384) (k0_off10 (grid0.coords t)) S1x4x1000x384.size (k0_off10_inb (grid0.coords t))) (fun _ => rfl)).squeeze S4x1000x384 squeezes_S1x4x1000x384_S4x1000x384 = halfA (Ring.sl 2 t.val) := halfA_canon (Ring.sl 2 t.val) (off10_at t) (k0_off10_inb (grid0.coords t))
@[sl_canon] theorem off10_canon' (t : Fin grid0.N) :
    (scratch.slice (Rect.unit (s := S2x7x1000x384) (k0_off10 (grid0.coords t)) ![1, 4, 1000, 384] (k0_off10_inb (grid0.coords t))) (fun _ => rfl)).squeeze S4x1000x384 squeezes_S1x4x1000x384_S4x1000x384 = halfA (Ring.sl 2 t.val) := halfA_canon (Ring.sl 2 t.val) (off10_at t) (k0_off10_inb (grid0.coords t))
@[sl_canon] theorem off13_canon (t : Fin grid0.N) :
    (scratch.slice (Rect.unit (s := S2x7x1000x384) (k0_off13 (grid0.coords t)) S1x3x1000x384.size (k0_off13_inb (grid0.coords t))) (fun _ => rfl)).squeeze S3x1000x384 squeezes_S1x3x1000x384_S3x1000x384 = halfB (Ring.sl 2 t.val) := halfB_canon (Ring.sl 2 t.val) (off13_at t) (k0_off13_inb (grid0.coords t))
@[sl_canon] theorem off13_canon' (t : Fin grid0.N) :
    (scratch.slice (Rect.unit (s := S2x7x1000x384) (k0_off13 (grid0.coords t)) ![1, 3, 1000, 384] (k0_off13_inb (grid0.coords t))) (fun _ => rfl)).squeeze S3x1000x384 squeezes_S1x3x1000x384_S3x1000x384 = halfB (Ring.sl 2 t.val) := halfB_canon (Ring.sl 2 t.val) (off13_at t) (k0_off13_inb (grid0.coords t))
@[sl_canon] theorem off7_canon (t : Fin grid0.N) :
    (scratch.slice (Rect.unit (s := S2x7x1000x384) (k0_off7 (grid0.coords t)) S1x7x1000x384.size (k0_off7_inb (grid0.coords t))) (fun _ => rfl)).squeeze S7x1000x384 squeezes_S1x7x1000x384_S7x1000x384 = slot (Ring.sl 2 t.val) := slot_canon (Ring.sl 2 t.val) (off7_at t) (k0_off7_inb (grid0.coords t))
@[sl_canon] theorem off7_canon' (t : Fin grid0.N) :
    (scratch.slice (Rect.unit (s := S2x7x1000x384) (k0_off7 (grid0.coords t)) ![1, 7, 1000, 384] (k0_off7_inb (grid0.coords t))) (fun _ => rfl)).squeeze S7x1000x384 squeezes_S1x7x1000x384_S7x1000x384 = slot (Ring.sl 2 t.val) := slot_canon (Ring.sl 2 t.val) (off7_at t) (k0_off7_inb (grid0.coords t))
@[sl_canon] theorem off9_canon (t : Fin grid0.N) :
    result.slice (Rect.unit (s := S49x1000x384) (k0_off9 (grid0.coords t)) S4x1000x384.size (k0_off9_inb (grid0.coords t))) (fun _ => rfl) = partA (Ring.bk 7 t.val) := partA_canon (Ring.bk 7 t.val) (off9_at t) (k0_off9_inb (grid0.coords t))
@[sl_canon] theorem off9_canon' (t : Fin grid0.N) :
    result.slice (Rect.unit (s := S49x1000x384) (k0_off9 (grid0.coords t)) ![4, 1000, 384] (k0_off9_inb (grid0.coords t))) (fun _ => rfl) = partA (Ring.bk 7 t.val) := partA_canon (Ring.bk 7 t.val) (off9_at t) (k0_off9_inb (grid0.coords t))
@[sl_canon] theorem off12_canon (t : Fin grid0.N) :
    result.slice (Rect.unit (s := S49x1000x384) (k0_off12 (grid0.coords t)) S3x1000x384.size (k0_off12_inb (grid0.coords t))) (fun _ => rfl) = partB (Ring.bk 7 t.val) := partB_canon (Ring.bk 7 t.val) (off12_at t) (k0_off12_inb (grid0.coords t))
@[sl_canon] theorem off12_canon' (t : Fin grid0.N) :
    result.slice (Rect.unit (s := S49x1000x384) (k0_off12 (grid0.coords t)) ![3, 1000, 384] (k0_off12_inb (grid0.coords t))) (fun _ => rfl) = partB (Ring.bk 7 t.val) := partB_canon (Ring.bk 7 t.val) (off12_at t) (k0_off12_inb (grid0.coords t))
@[sl_canon] theorem off1_canon (t : Fin grid0.N) (h : k0_cond1 (grid0.coords t) = 1#1) :
    (cc0_scratch1.slice (Rect.unit (s := S2x2) (k0_off1 (grid0.coords t)) S1x1.size (k0_off1_inb (grid0.coords t) h))).squeeze S_ squeezes_S1x1_S_ = semOf (Ring.sl 2 t.val) 0 := sem_canon (Ring.sl 2 t.val) 0 (off1_at t) (k0_off1_inb (grid0.coords t) h)
@[sl_canon] theorem off1_canon' (t : Fin grid0.N) (h : k0_cond1 (grid0.coords t) = 1#1) :
    (cc0_scratch1.slice (Rect.unit (s := S2x2) (k0_off1 (grid0.coords t)) ![1, 1] (k0_off1_inb (grid0.coords t) h))).squeeze S_ squeezes_S1x1_S_ = semOf (Ring.sl 2 t.val) 0 := sem_canon (Ring.sl 2 t.val) 0 (off1_at t) (k0_off1_inb (grid0.coords t) h)
@[sl_canon] theorem off4_canon (t : Fin grid0.N) (h : k0_cond1 (grid0.coords t) = 1#1) :
    (cc0_scratch1.slice (Rect.unit (s := S2x2) (k0_off4 (grid0.coords t)) S1x1.size (k0_off4_inb (grid0.coords t) h))).squeeze S_ squeezes_S1x1_S_ = semOf (Ring.sl 2 t.val) 1 := sem_canon (Ring.sl 2 t.val) 1 (off4_at t) (k0_off4_inb (grid0.coords t) h)
@[sl_canon] theorem off4_canon' (t : Fin grid0.N) (h : k0_cond1 (grid0.coords t) = 1#1) :
    (cc0_scratch1.slice (Rect.unit (s := S2x2) (k0_off4 (grid0.coords t)) ![1, 1] (k0_off4_inb (grid0.coords t) h))).squeeze S_ squeezes_S1x1_S_ = semOf (Ring.sl 2 t.val) 1 := sem_canon (Ring.sl 2 t.val) 1 (off4_at t) (k0_off4_inb (grid0.coords t) h)
@[sl_canon] theorem off3_canon (t : Fin grid0.N) (h : k0_cond1 (grid0.coords t) = 1#1) :
    (scratch.slice (Rect.unit (s := S2x7x1000x384) (k0_off3 (grid0.coords t)) S1x4x1000x384.size (k0_off3_inb (grid0.coords t) h)) (fun _ => rfl)).squeeze S4x1000x384 squeezes_S1x4x1000x384_S4x1000x384 = halfA (Ring.sl 2 t.val) := halfA_canon (Ring.sl 2 t.val) (off3_at t) (k0_off3_inb (grid0.coords t) h)
@[sl_canon] theorem off3_canon' (t : Fin grid0.N) (h : k0_cond1 (grid0.coords t) = 1#1) :
    (scratch.slice (Rect.unit (s := S2x7x1000x384) (k0_off3 (grid0.coords t)) ![1, 4, 1000, 384] (k0_off3_inb (grid0.coords t) h)) (fun _ => rfl)).squeeze S4x1000x384 squeezes_S1x4x1000x384_S4x1000x384 = halfA (Ring.sl 2 t.val) := halfA_canon (Ring.sl 2 t.val) (off3_at t) (k0_off3_inb (grid0.coords t) h)
@[sl_canon] theorem off6_canon (t : Fin grid0.N) (h : k0_cond1 (grid0.coords t) = 1#1) :
    (scratch.slice (Rect.unit (s := S2x7x1000x384) (k0_off6 (grid0.coords t)) S1x3x1000x384.size (k0_off6_inb (grid0.coords t) h)) (fun _ => rfl)).squeeze S3x1000x384 squeezes_S1x3x1000x384_S3x1000x384 = halfB (Ring.sl 2 t.val) := halfB_canon (Ring.sl 2 t.val) (off6_at t) (k0_off6_inb (grid0.coords t) h)
@[sl_canon] theorem off6_canon' (t : Fin grid0.N) (h : k0_cond1 (grid0.coords t) = 1#1) :
    (scratch.slice (Rect.unit (s := S2x7x1000x384) (k0_off6 (grid0.coords t)) ![1, 3, 1000, 384] (k0_off6_inb (grid0.coords t) h)) (fun _ => rfl)).squeeze S3x1000x384 squeezes_S1x3x1000x384_S3x1000x384 = halfB (Ring.sl 2 t.val) := halfB_canon (Ring.sl 2 t.val) (off6_at t) (k0_off6_inb (grid0.coords t) h)
@[sl_canon] theorem off14_canon (t : Fin grid0.N) (h : k0_cond2 (grid0.coords t) = 1#1) :
    (cc0_scratch1.slice (Rect.unit (s := S2x2) (k0_off14 (grid0.coords t)) S1x1.size (k0_off14_inb (grid0.coords t) h))).squeeze S_ squeezes_S1x1_S_ = semOf (Ring.sl 2 (t.val + 1)) 0 := sem_canon (Ring.sl 2 (t.val + 1)) 0 (off14_at t) (k0_off14_inb (grid0.coords t) h)
@[sl_canon] theorem off14_canon' (t : Fin grid0.N) (h : k0_cond2 (grid0.coords t) = 1#1) :
    (cc0_scratch1.slice (Rect.unit (s := S2x2) (k0_off14 (grid0.coords t)) ![1, 1] (k0_off14_inb (grid0.coords t) h))).squeeze S_ squeezes_S1x1_S_ = semOf (Ring.sl 2 (t.val + 1)) 0 := sem_canon (Ring.sl 2 (t.val + 1)) 0 (off14_at t) (k0_off14_inb (grid0.coords t) h)
@[sl_canon] theorem off17_canon (t : Fin grid0.N) (h : k0_cond2 (grid0.coords t) = 1#1) :
    (cc0_scratch1.slice (Rect.unit (s := S2x2) (k0_off17 (grid0.coords t)) S1x1.size (k0_off17_inb (grid0.coords t) h))).squeeze S_ squeezes_S1x1_S_ = semOf (Ring.sl 2 (t.val + 1)) 1 := sem_canon (Ring.sl 2 (t.val + 1)) 1 (off17_at t) (k0_off17_inb (grid0.coords t) h)
@[sl_canon] theorem off17_canon' (t : Fin grid0.N) (h : k0_cond2 (grid0.coords t) = 1#1) :
    (cc0_scratch1.slice (Rect.unit (s := S2x2) (k0_off17 (grid0.coords t)) ![1, 1] (k0_off17_inb (grid0.coords t) h))).squeeze S_ squeezes_S1x1_S_ = semOf (Ring.sl 2 (t.val + 1)) 1 := sem_canon (Ring.sl 2 (t.val + 1)) 1 (off17_at t) (k0_off17_inb (grid0.coords t) h)
@[sl_canon] theorem off16_canon (t : Fin grid0.N) (h : k0_cond2 (grid0.coords t) = 1#1) :
    (scratch.slice (Rect.unit (s := S2x7x1000x384) (k0_off16 (grid0.coords t)) S1x4x1000x384.size (k0_off16_inb (grid0.coords t) h)) (fun _ => rfl)).squeeze S4x1000x384 squeezes_S1x4x1000x384_S4x1000x384 = halfA (Ring.sl 2 (t.val + 1)) := halfA_canon (Ring.sl 2 (t.val + 1)) (off16_at t) (k0_off16_inb (grid0.coords t) h)
@[sl_canon] theorem off16_canon' (t : Fin grid0.N) (h : k0_cond2 (grid0.coords t) = 1#1) :
    (scratch.slice (Rect.unit (s := S2x7x1000x384) (k0_off16 (grid0.coords t)) ![1, 4, 1000, 384] (k0_off16_inb (grid0.coords t) h)) (fun _ => rfl)).squeeze S4x1000x384 squeezes_S1x4x1000x384_S4x1000x384 = halfA (Ring.sl 2 (t.val + 1)) := halfA_canon (Ring.sl 2 (t.val + 1)) (off16_at t) (k0_off16_inb (grid0.coords t) h)
@[sl_canon] theorem off19_canon (t : Fin grid0.N) (h : k0_cond2 (grid0.coords t) = 1#1) :
    (scratch.slice (Rect.unit (s := S2x7x1000x384) (k0_off19 (grid0.coords t)) S1x3x1000x384.size (k0_off19_inb (grid0.coords t) h)) (fun _ => rfl)).squeeze S3x1000x384 squeezes_S1x3x1000x384_S3x1000x384 = halfB (Ring.sl 2 (t.val + 1)) := halfB_canon (Ring.sl 2 (t.val + 1)) (off19_at t) (k0_off19_inb (grid0.coords t) h)
@[sl_canon] theorem off19_canon' (t : Fin grid0.N) (h : k0_cond2 (grid0.coords t) = 1#1) :
    (scratch.slice (Rect.unit (s := S2x7x1000x384) (k0_off19 (grid0.coords t)) ![1, 3, 1000, 384] (k0_off19_inb (grid0.coords t) h)) (fun _ => rfl)).squeeze S3x1000x384 squeezes_S1x3x1000x384_S3x1000x384 = halfB (Ring.sl 2 (t.val + 1)) := halfB_canon (Ring.sl 2 (t.val + 1)) (off19_at t) (k0_off19_inb (grid0.coords t) h)
@[sl_canon] theorem off20_canon (t : Fin grid0.N) (h : k0_cond2 (grid0.coords t) = 1#1) :
    (cc0_scratch1.slice (Rect.unit (s := S2x2) (k0_off20 (grid0.coords t)) S1x1.size (k0_off20_inb (grid0.coords t) h))).squeeze S_ squeezes_S1x1_S_ = semOf (Ring.sl 2 t.val) 0 := sem_canon (Ring.sl 2 t.val) 0 (off20_at t) (k0_off20_inb (grid0.coords t) h)
@[sl_canon] theorem off20_canon' (t : Fin grid0.N) (h : k0_cond2 (grid0.coords t) = 1#1) :
    (cc0_scratch1.slice (Rect.unit (s := S2x2) (k0_off20 (grid0.coords t)) ![1, 1] (k0_off20_inb (grid0.coords t) h))).squeeze S_ squeezes_S1x1_S_ = semOf (Ring.sl 2 t.val) 0 := sem_canon (Ring.sl 2 t.val) 0 (off20_at t) (k0_off20_inb (grid0.coords t) h)
@[sl_canon] theorem off23_canon (t : Fin grid0.N) (h : k0_cond2 (grid0.coords t) = 1#1) :
    (cc0_scratch1.slice (Rect.unit (s := S2x2) (k0_off23 (grid0.coords t)) S1x1.size (k0_off23_inb (grid0.coords t) h))).squeeze S_ squeezes_S1x1_S_ = semOf (Ring.sl 2 t.val) 1 := sem_canon (Ring.sl 2 t.val) 1 (off23_at t) (k0_off23_inb (grid0.coords t) h)
@[sl_canon] theorem off23_canon' (t : Fin grid0.N) (h : k0_cond2 (grid0.coords t) = 1#1) :
    (cc0_scratch1.slice (Rect.unit (s := S2x2) (k0_off23 (grid0.coords t)) ![1, 1] (k0_off23_inb (grid0.coords t) h))).squeeze S_ squeezes_S1x1_S_ = semOf (Ring.sl 2 t.val) 1 := sem_canon (Ring.sl 2 t.val) 1 (off23_at t) (k0_off23_inb (grid0.coords t) h)
@[sl_canon] theorem off22_canon (t : Fin grid0.N) (h : k0_cond2 (grid0.coords t) = 1#1) :
    (scratch.slice (Rect.unit (s := S2x7x1000x384) (k0_off22 (grid0.coords t)) S1x4x1000x384.size (k0_off22_inb (grid0.coords t) h)) (fun _ => rfl)).squeeze S4x1000x384 squeezes_S1x4x1000x384_S4x1000x384 = halfA (Ring.sl 2 t.val) := halfA_canon (Ring.sl 2 t.val) (off22_at t) (k0_off22_inb (grid0.coords t) h)
@[sl_canon] theorem off22_canon' (t : Fin grid0.N) (h : k0_cond2 (grid0.coords t) = 1#1) :
    (scratch.slice (Rect.unit (s := S2x7x1000x384) (k0_off22 (grid0.coords t)) ![1, 4, 1000, 384] (k0_off22_inb (grid0.coords t) h)) (fun _ => rfl)).squeeze S4x1000x384 squeezes_S1x4x1000x384_S4x1000x384 = halfA (Ring.sl 2 t.val) := halfA_canon (Ring.sl 2 t.val) (off22_at t) (k0_off22_inb (grid0.coords t) h)
@[sl_canon] theorem off25_canon (t : Fin grid0.N) (h : k0_cond2 (grid0.coords t) = 1#1) :
    (scratch.slice (Rect.unit (s := S2x7x1000x384) (k0_off25 (grid0.coords t)) S1x3x1000x384.size (k0_off25_inb (grid0.coords t) h)) (fun _ => rfl)).squeeze S3x1000x384 squeezes_S1x3x1000x384_S3x1000x384 = halfB (Ring.sl 2 t.val) := halfB_canon (Ring.sl 2 t.val) (off25_at t) (k0_off25_inb (grid0.coords t) h)
@[sl_canon] theorem off25_canon' (t : Fin grid0.N) (h : k0_cond2 (grid0.coords t) = 1#1) :
    (scratch.slice (Rect.unit (s := S2x7x1000x384) (k0_off25 (grid0.coords t)) ![1, 3, 1000, 384] (k0_off25_inb (grid0.coords t) h)) (fun _ => rfl)).squeeze S3x1000x384 squeezes_S1x3x1000x384_S3x1000x384 = halfB (Ring.sl 2 t.val) := halfB_canon (Ring.sl 2 t.val) (off25_at t) (k0_off25_inb (grid0.coords t) h)

end Canon

/-! ## The ring's pieces as propositions -/

section Pieces
variable (c : Dev nD)

/-- Half A of slot `g` held at contents `e`. -/
abbrev halfAP (g : Fin 2) (e : Buf (Elt F) ((halfA g).view.loc (c : Thread nD τ))) : sProp 𝕄 :=
  (halfA g).view.loc (c : Thread nD τ) ↦[(halfA g).view.set]{fullShare} e
abbrev halfBP (g : Fin 2) (e : Buf (Elt F) ((halfB g).view.loc (c : Thread nD τ))) : sProp 𝕄 :=
  (halfB g).view.loc (c : Thread nD τ) ↦[(halfB g).view.set]{fullShare} e
/-- Step `u`'s first part of the result held at contents `f`. -/
abbrev partAP (u : Fin 7) (f : Buf (Elt F) ((partA u).view.loc (c : Thread nD τ))) : sProp 𝕄 :=
  (partA u).view.loc (c : Thread nD τ) ↦[(partA u).view.set]{fullShare} f
abbrev partBP (u : Fin 7) (f : Buf (Elt F) ((partB u).view.loc (c : Thread nD τ))) : sProp 𝕄 :=
  (partB u).view.loc (c : Thread nD τ) ↦[(partB u).view.set]{fullShare} f
/-- A copy of half A of slot `g` to step `u`'s first part in flight, delivering the part at `f` and the half at `e`. -/
abbrev flightA (g : Fin 2) (u : Fin 7) (f : Buf (Elt F) ((partA u).view.loc (c : Thread nD τ)))
    (e : Buf (Elt F) ((halfA g).view.loc (c : Thread nD τ))) : sProp 𝕄 :=
  Transfers.Flight countersEmb (c : Thread nD τ) (semA g) default ((partA u).view.amount (semA g)) iprop(partAP c u f ∗ halfAP c g e)
abbrev flightB (g : Fin 2) (u : Fin 7) (f : Buf (Elt F) ((partB u).view.loc (c : Thread nD τ)))
    (e : Buf (Elt F) ((halfB g).view.loc (c : Thread nD τ))) : sProp 𝕄 :=
  Transfers.Flight countersEmb (c : Thread nD τ) (semB g) default ((partB u).view.amount (semB g)) iprop(partBP c u f ∗ halfBP c g e)
abbrev zeroA (g : Fin 2) : sProp 𝕄 := semVal ((c : Thread nD τ), semA g) 0
abbrev zeroB (g : Fin 2) : sProp 𝕄 := semVal ((c : Thread nD τ), semB g) 0

/-- Slot `g` held whole at contents `e`. -/
abbrev slotP (g : Fin 2) (e : Buf (Elt F) ((slot g).view.loc (c : Thread nD τ))) : sProp 𝕄 :=
  (slot g).view.loc (c : Thread nD τ) ↦[(slot g).view.set]{fullShare} e
/-- Step `u`'s seven rows of the result held at contents `f`. -/
abbrev pieceP (u : Fin 7) (f : Buf (Elt F) ((piece u).view.loc (c : Thread nD τ))) : sProp 𝕄 :=
  (piece u).view.loc (c : Thread nD τ) ↦[(piece u).view.set]{fullShare} f

theorem slotP_eq (g : Fin 2) (e) : slotP (F := F) c g e = (((c : Thread nD τ).loc cc0_scratch0) ↦[slotBox g]{fullShare} e : sProp 𝕄) := by
  unfold slotP; rw [slot_set]; rfl
theorem halfAP_eq (g : Fin 2) (e) : halfAP (F := F) c g e = (((c : Thread nD τ).loc cc0_scratch0) ↦[halfABox g]{fullShare} e : sProp 𝕄) := by
  unfold halfAP; rw [halfA_set]; rfl
theorem halfBP_eq (g : Fin 2) (e) : halfBP (F := F) c g e = (((c : Thread nD τ).loc cc0_scratch0) ↦[halfBBox g]{fullShare} e : sProp 𝕄) := by
  unfold halfBP; rw [halfB_set]; rfl
theorem pieceP_eq (u : Fin 7) (f) : pieceP (F := F) c u f = (((c : Thread nD τ).loc main_v3) ↦[pieceBox u]{fullShare} f : sProp 𝕄) := by
  unfold pieceP; rw [piece_set]; rfl
theorem partAP_eq (u : Fin 7) (f) : partAP (F := F) c u f = (((c : Thread nD τ).loc main_v3) ↦[partABox u]{fullShare} f : sProp 𝕄) := by
  unfold partAP; rw [partA_set]; rfl
theorem partBP_eq (u : Fin 7) (f) : partBP (F := F) c u f = (((c : Thread nD τ).loc main_v3) ↦[partBBox u]{fullShare} f : sProp 𝕄) := by
  unfold partBP; rw [partB_set]; rfl

/-- A slot is its two halves, at the same contents; -/
theorem slot_split (g : Fin 2) (e : Buf (Elt F) ((slot g).view.loc (c : Thread nD τ))) : slotP c g e ⊢ iprop(halfAP c g e ∗ halfBP c g e) := by
  have h : (((c : Thread nD τ).loc cc0_scratch0) ↦[slotBox g]{fullShare} e : sProp 𝕄) ⊢ iprop((((c : Thread nD τ).loc cc0_scratch0) ↦[halfABox g]{fullShare} e) ∗ ((c : Thread nD τ).loc cc0_scratch0) ↦[slotBox g \ halfABox g]{fullShare} e) :=
    (pointsTo_split_subset (halfA_sub g)).1
  rw [halfB_rest g] at h
  exact (Entails.of_eq (slotP_eq c g e)).trans (h.trans (Entails.of_eq (congrArg₂ (fun A B : sProp 𝕄 => iprop(A ∗ B)) (halfAP_eq c g e).symm (halfBP_eq c g e).symm)))
/-- and two halves at anything are the slot at something. -/
theorem slot_join (g : Fin 2) (e e' : Buf (Elt F) ((c : Thread nD τ).loc cc0_scratch0)) : iprop(halfAP (F := F) c g e ∗ halfBP c g e') ⊢ iprop(∃ f, slotP c g f) := by
  have h : iprop((((c : Thread nD τ).loc cc0_scratch0) ↦[halfABox g]{fullShare} e) ∗ ((c : Thread nD τ).loc cc0_scratch0) ↦[slotBox g \ halfABox g]{fullShare} e') ⊢ (((c : Thread nD τ).loc cc0_scratch0) ↦[slotBox g]{fullShare} ((halfABox g).piecewise e e') : sProp 𝕄) :=
    pointsTo_join_subset (halfA_sub g)
  rw [halfB_rest g] at h
  have h' : iprop(halfAP (F := F) c g e ∗ halfBP c g e') ⊢ slotP c g ((halfABox g).piecewise e e') :=
    (Entails.of_eq (congrArg₂ (fun A B : sProp 𝕄 => iprop(A ∗ B)) (halfAP_eq c g e) (halfBP_eq c g e'))).trans (h.trans (Entails.of_eq (slotP_eq c g _).symm))
  iintro H
  iexists _
  iapply h'
  iexact H
/-- Step `u`'s rows are its two parts, at the same contents; -/
theorem piece_split (u : Fin 7) (f : Buf (Elt F) ((piece u).view.loc (c : Thread nD τ))) : pieceP c u f ⊢ iprop(partAP c u f ∗ partBP c u f) := by
  have h : (((c : Thread nD τ).loc main_v3) ↦[pieceBox u]{fullShare} f : sProp 𝕄) ⊢ iprop((((c : Thread nD τ).loc main_v3) ↦[partABox u]{fullShare} f) ∗ ((c : Thread nD τ).loc main_v3) ↦[pieceBox u \ partABox u]{fullShare} f) :=
    (pointsTo_split_subset (partA_sub u)).1
  rw [partB_rest u] at h
  exact (Entails.of_eq (pieceP_eq c u f)).trans (h.trans (Entails.of_eq (congrArg₂ (fun A B : sProp 𝕄 => iprop(A ∗ B)) (partAP_eq c u f).symm (partBP_eq c u f).symm)))
/-- and back. -/
theorem piece_join (u : Fin 7) (f : Buf (Elt F) ((c : Thread nD τ).loc main_v3)) : iprop(partAP c u f ∗ partBP c u f) ⊢ pieceP c u f := by
  have h : iprop((((c : Thread nD τ).loc main_v3) ↦[partABox u]{fullShare} f) ∗ ((c : Thread nD τ).loc main_v3) ↦[pieceBox u \ partABox u]{fullShare} f) ⊢ (((c : Thread nD τ).loc main_v3) ↦[pieceBox u]{fullShare} f : sProp 𝕄) :=
    (pointsTo_split_subset (partA_sub u)).2
  rw [partB_rest u] at h
  exact (Entails.of_eq (congrArg₂ (fun A B : sProp 𝕄 => iprop(A ∗ B)) (partAP_eq c u f) (partBP_eq c u f))).trans (h.trans (Entails.of_eq (pieceP_eq c u f).symm))

end Pieces

end Cert.KernelIdeal.Roi

end
-- ==== Proof.KernelIdeal.Land.lean ====
/- What a finished copy leaves. Once a slot holds the seven rows of step `u` of some contents `G` of the result (`Fits`),
   the copies of its two halves leave the result's rows at `G` exactly: the flights that carry them are flights at `G`. -/
module

public import proofs.«01_k».proof.Proof.KernelIdeal.Ring
public import Idealize.ShloMosaic.Lib.WritesUnit
public import Idealize.ShloMosaic.Lib.Pipeline.Value

@[expose] public section

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (Pipeline.UD sig nD τ) ℕ

/-- Position `7 t + q` leaves `q` by 7, -/
theorem pos_rem : (∀ t : Fin cfg0.N, Scalar.remsi (Scalar.addi (Scalar.muli (BitVec.ofNat 32 (grid0.coords t 0).val) 7#32) 0#32) 7#32 = 0#32) ∧ (∀ t : Fin cfg0.N, Scalar.remsi (Scalar.addi (Scalar.muli (BitVec.ofNat 32 (grid0.coords t 0).val) 7#32) 1#32) 7#32 = 1#32) ∧ (∀ t : Fin cfg0.N, Scalar.remsi (Scalar.addi (Scalar.muli (BitVec.ofNat 32 (grid0.coords t 0).val) 7#32) 2#32) 7#32 = 2#32) ∧ (∀ t : Fin cfg0.N, Scalar.remsi (Scalar.addi (Scalar.muli (BitVec.ofNat 32 (grid0.coords t 0).val) 7#32) 3#32) 7#32 = 3#32) ∧ (∀ t : Fin cfg0.N, Scalar.remsi (Scalar.addi (Scalar.muli (BitVec.ofNat 32 (grid0.coords t 0).val) 7#32) 4#32) 7#32 = 4#32) ∧ (∀ t : Fin cfg0.N, Scalar.remsi (Scalar.addi (Scalar.muli (BitVec.ofNat 32 (grid0.coords t 0).val) 7#32) 5#32) 7#32 = 5#32) ∧ (∀ t : Fin cfg0.N, Scalar.remsi (Scalar.addi (Scalar.muli (BitVec.ofNat 32 (grid0.coords t 0).val) 7#32) 6#32) 7#32 = 6#32) :=
  (by decide +kernel : (∀ t : Fin grid0.N, Scalar.remsi (Scalar.addi (Scalar.muli (BitVec.ofNat 32 (grid0.coords t 0).val) 7#32) 0#32) 7#32 = 0#32) ∧ (∀ t : Fin grid0.N, Scalar.remsi (Scalar.addi (Scalar.muli (BitVec.ofNat 32 (grid0.coords t 0).val) 7#32) 1#32) 7#32 = 1#32) ∧ (∀ t : Fin grid0.N, Scalar.remsi (Scalar.addi (Scalar.muli (BitVec.ofNat 32 (grid0.coords t 0).val) 7#32) 2#32) 7#32 = 2#32) ∧ (∀ t : Fin grid0.N, Scalar.remsi (Scalar.addi (Scalar.muli (BitVec.ofNat 32 (grid0.coords t 0).val) 7#32) 3#32) 7#32 = 3#32) ∧ (∀ t : Fin grid0.N, Scalar.remsi (Scalar.addi (Scalar.muli (BitVec.ofNat 32 (grid0.coords t 0).val) 7#32) 4#32) 7#32 = 4#32) ∧ (∀ t : Fin grid0.N, Scalar.remsi (Scalar.addi (Scalar.muli (BitVec.ofNat 32 (grid0.coords t 0).val) 7#32) 5#32) 7#32 = 5#32) ∧ (∀ t : Fin grid0.N, Scalar.remsi (Scalar.addi (Scalar.muli (BitVec.ofNat 32 (grid0.coords t 0).val) 7#32) 6#32) 7#32 = 6#32))
/-- and is `t` sevens. -/
theorem pos_div : (∀ t : Fin cfg0.N, Scalar.divsi (Scalar.addi (Scalar.muli (BitVec.ofNat 32 (grid0.coords t 0).val) 7#32) 0#32) 7#32 = BitVec.ofNat 32 t.val) ∧ (∀ t : Fin cfg0.N, Scalar.divsi (Scalar.addi (Scalar.muli (BitVec.ofNat 32 (grid0.coords t 0).val) 7#32) 1#32) 7#32 = BitVec.ofNat 32 t.val) ∧ (∀ t : Fin cfg0.N, Scalar.divsi (Scalar.addi (Scalar.muli (BitVec.ofNat 32 (grid0.coords t 0).val) 7#32) 2#32) 7#32 = BitVec.ofNat 32 t.val) ∧ (∀ t : Fin cfg0.N, Scalar.divsi (Scalar.addi (Scalar.muli (BitVec.ofNat 32 (grid0.coords t 0).val) 7#32) 3#32) 7#32 = BitVec.ofNat 32 t.val) ∧ (∀ t : Fin cfg0.N, Scalar.divsi (Scalar.addi (Scalar.muli (BitVec.ofNat 32 (grid0.coords t 0).val) 7#32) 4#32) 7#32 = BitVec.ofNat 32 t.val) ∧ (∀ t : Fin cfg0.N, Scalar.divsi (Scalar.addi (Scalar.muli (BitVec.ofNat 32 (grid0.coords t 0).val) 7#32) 5#32) 7#32 = BitVec.ofNat 32 t.val) ∧ (∀ t : Fin cfg0.N, Scalar.divsi (Scalar.addi (Scalar.muli (BitVec.ofNat 32 (grid0.coords t 0).val) 7#32) 6#32) 7#32 = BitVec.ofNat 32 t.val) :=
  (by decide +kernel : (∀ t : Fin grid0.N, Scalar.divsi (Scalar.addi (Scalar.muli (BitVec.ofNat 32 (grid0.coords t 0).val) 7#32) 0#32) 7#32 = BitVec.ofNat 32 t.val) ∧ (∀ t : Fin grid0.N, Scalar.divsi (Scalar.addi (Scalar.muli (BitVec.ofNat 32 (grid0.coords t 0).val) 7#32) 1#32) 7#32 = BitVec.ofNat 32 t.val) ∧ (∀ t : Fin grid0.N, Scalar.divsi (Scalar.addi (Scalar.muli (BitVec.ofNat 32 (grid0.coords t 0).val) 7#32) 2#32) 7#32 = BitVec.ofNat 32 t.val) ∧ (∀ t : Fin grid0.N, Scalar.divsi (Scalar.addi (Scalar.muli (BitVec.ofNat 32 (grid0.coords t 0).val) 7#32) 3#32) 7#32 = BitVec.ofNat 32 t.val) ∧ (∀ t : Fin grid0.N, Scalar.divsi (Scalar.addi (Scalar.muli (BitVec.ofNat 32 (grid0.coords t 0).val) 7#32) 4#32) 7#32 = BitVec.ofNat 32 t.val) ∧ (∀ t : Fin grid0.N, Scalar.divsi (Scalar.addi (Scalar.muli (BitVec.ofNat 32 (grid0.coords t 0).val) 7#32) 5#32) 7#32 = BitVec.ofNat 32 t.val) ∧ (∀ t : Fin grid0.N, Scalar.divsi (Scalar.addi (Scalar.muli (BitVec.ofNat 32 (grid0.coords t 0).val) 7#32) 6#32) 7#32 = BitVec.ofNat 32 t.val))
/-- A position past the first is positive, -/
theorem pos_pos : (∀ t : Fin cfg0.N, Scalar.cmpi .sgt (Scalar.addi (Scalar.muli (BitVec.ofNat 32 (grid0.coords t 0).val) 7#32) 1#32) 0#32 = 1#1) ∧ (∀ t : Fin cfg0.N, Scalar.cmpi .sgt (Scalar.addi (Scalar.muli (BitVec.ofNat 32 (grid0.coords t 0).val) 7#32) 2#32) 0#32 = 1#1) ∧ (∀ t : Fin cfg0.N, Scalar.cmpi .sgt (Scalar.addi (Scalar.muli (BitVec.ofNat 32 (grid0.coords t 0).val) 7#32) 3#32) 0#32 = 1#1) ∧ (∀ t : Fin cfg0.N, Scalar.cmpi .sgt (Scalar.addi (Scalar.muli (BitVec.ofNat 32 (grid0.coords t 0).val) 7#32) 4#32) 0#32 = 1#1) ∧ (∀ t : Fin cfg0.N, Scalar.cmpi .sgt (Scalar.addi (Scalar.muli (BitVec.ofNat 32 (grid0.coords t 0).val) 7#32) 5#32) 0#32 = 1#1) ∧ (∀ t : Fin cfg0.N, Scalar.cmpi .sgt (Scalar.addi (Scalar.muli (BitVec.ofNat 32 (grid0.coords t 0).val) 7#32) 6#32) 0#32 = 1#1) :=
  (by decide +kernel : (∀ t : Fin grid0.N, Scalar.cmpi .sgt (Scalar.addi (Scalar.muli (BitVec.ofNat 32 (grid0.coords t 0).val) 7#32) 1#32) 0#32 = 1#1) ∧ (∀ t : Fin grid0.N, Scalar.cmpi .sgt (Scalar.addi (Scalar.muli (BitVec.ofNat 32 (grid0.coords t 0).val) 7#32) 2#32) 0#32 = 1#1) ∧ (∀ t : Fin grid0.N, Scalar.cmpi .sgt (Scalar.addi (Scalar.muli (BitVec.ofNat 32 (grid0.coords t 0).val) 7#32) 3#32) 0#32 = 1#1) ∧ (∀ t : Fin grid0.N, Scalar.cmpi .sgt (Scalar.addi (Scalar.muli (BitVec.ofNat 32 (grid0.coords t 0).val) 7#32) 4#32) 0#32 = 1#1) ∧ (∀ t : Fin grid0.N, Scalar.cmpi .sgt (Scalar.addi (Scalar.muli (BitVec.ofNat 32 (grid0.coords t 0).val) 7#32) 5#32) 0#32 = 1#1) ∧ (∀ t : Fin grid0.N, Scalar.cmpi .sgt (Scalar.addi (Scalar.muli (BitVec.ofNat 32 (grid0.coords t 0).val) 7#32) 6#32) 0#32 = 1#1))
/-- and none is negative. -/
theorem pos_neg : (∀ t : Fin cfg0.N, Scalar.cmpi .slt (Scalar.addi (Scalar.muli (BitVec.ofNat 32 (grid0.coords t 0).val) 7#32) 0#32) 0#32 = 0#1) ∧ (∀ t : Fin cfg0.N, Scalar.cmpi .slt (Scalar.addi (Scalar.muli (BitVec.ofNat 32 (grid0.coords t 0).val) 7#32) 1#32) 0#32 = 0#1) ∧ (∀ t : Fin cfg0.N, Scalar.cmpi .slt (Scalar.addi (Scalar.muli (BitVec.ofNat 32 (grid0.coords t 0).val) 7#32) 2#32) 0#32 = 0#1) ∧ (∀ t : Fin cfg0.N, Scalar.cmpi .slt (Scalar.addi (Scalar.muli (BitVec.ofNat 32 (grid0.coords t 0).val) 7#32) 3#32) 0#32 = 0#1) ∧ (∀ t : Fin cfg0.N, Scalar.cmpi .slt (Scalar.addi (Scalar.muli (BitVec.ofNat 32 (grid0.coords t 0).val) 7#32) 4#32) 0#32 = 0#1) ∧ (∀ t : Fin cfg0.N, Scalar.cmpi .slt (Scalar.addi (Scalar.muli (BitVec.ofNat 32 (grid0.coords t 0).val) 7#32) 5#32) 0#32 = 0#1) ∧ (∀ t : Fin cfg0.N, Scalar.cmpi .slt (Scalar.addi (Scalar.muli (BitVec.ofNat 32 (grid0.coords t 0).val) 7#32) 6#32) 0#32 = 0#1) :=
  (by decide +kernel : (∀ t : Fin grid0.N, Scalar.cmpi .slt (Scalar.addi (Scalar.muli (BitVec.ofNat 32 (grid0.coords t 0).val) 7#32) 0#32) 0#32 = 0#1) ∧ (∀ t : Fin grid0.N, Scalar.cmpi .slt (Scalar.addi (Scalar.muli (BitVec.ofNat 32 (grid0.coords t 0).val) 7#32) 1#32) 0#32 = 0#1) ∧ (∀ t : Fin grid0.N, Scalar.cmpi .slt (Scalar.addi (Scalar.muli (BitVec.ofNat 32 (grid0.coords t 0).val) 7#32) 2#32) 0#32 = 0#1) ∧ (∀ t : Fin grid0.N, Scalar.cmpi .slt (Scalar.addi (Scalar.muli (BitVec.ofNat 32 (grid0.coords t 0).val) 7#32) 3#32) 0#32 = 0#1) ∧ (∀ t : Fin grid0.N, Scalar.cmpi .slt (Scalar.addi (Scalar.muli (BitVec.ofNat 32 (grid0.coords t 0).val) 7#32) 4#32) 0#32 = 0#1) ∧ (∀ t : Fin grid0.N, Scalar.cmpi .slt (Scalar.addi (Scalar.muli (BitVec.ofNat 32 (grid0.coords t 0).val) 7#32) 5#32) 0#32 = 0#1) ∧ (∀ t : Fin grid0.N, Scalar.cmpi .slt (Scalar.addi (Scalar.muli (BitVec.ofNat 32 (grid0.coords t 0).val) 7#32) 6#32) 0#32 = 0#1))
/-- The constant words the body compares. -/
theorem word_consts : Scalar.cmpi .eq 7#32 0#32 = 0#1 ∧ Scalar.cmpi .slt 7#32 0#32 = 0#1 ∧ Scalar.cmpi .sgt 7#32 0#32 = 1#1 ∧ (Scalar.extui 0#1 : BitVec 32) = 0#32 ∧ (Scalar.extui 1#1 : BitVec 32) = 1#32 ∧ Scalar.subi 1#32 0#32 = 1#32 ∧ Scalar.cmpi .ne 1#32 1#32 = 0#1 ∧ Scalar.xori 0#1 0#1 = 0#1 ∧ Scalar.cmpi .ne 0#32 0#32 = 0#1 ∧ Scalar.cmpi .ne 1#32 0#32 = 1#1 ∧ Scalar.cmpi .ne 2#32 0#32 = 1#1 ∧ Scalar.cmpi .ne 3#32 0#32 = 1#1 ∧ Scalar.cmpi .ne 4#32 0#32 = 1#1 ∧ Scalar.cmpi .ne 5#32 0#32 = 1#1 ∧ Scalar.cmpi .ne 6#32 0#32 = 1#1 ∧ Scalar.cmpi .slt 0#32 0#32 = 0#1 ∧ Scalar.cmpi .slt 1#32 0#32 = 0#1 ∧ Scalar.cmpi .slt 2#32 0#32 = 0#1 ∧ Scalar.cmpi .slt 3#32 0#32 = 0#1 ∧ Scalar.cmpi .slt 4#32 0#32 = 0#1 ∧ Scalar.cmpi .slt 5#32 0#32 = 0#1 ∧ Scalar.cmpi .slt 6#32 0#32 = 0#1 := by decide +kernel
/-- A row's number as a word. -/
theorem row_words : BitVec.ofNat 32 (0 : Fin 7).val = 0#32 ∧ BitVec.ofNat 32 (1 : Fin 7).val = 1#32 ∧ BitVec.ofNat 32 (2 : Fin 7).val = 2#32 ∧ BitVec.ofNat 32 (3 : Fin 7).val = 3#32 ∧ BitVec.ofNat 32 (4 : Fin 7).val = 4#32 ∧ BitVec.ofNat 32 (5 : Fin 7).val = 5#32 ∧ BitVec.ofNat 32 (6 : Fin 7).val = 6#32 := by decide
/-- No bit is both false and set; -/
theorem andi_zero_bit : ∀ b : BitVec 1, Scalar.andi b 0#1 = 0#1 := by decide
/-- in either order; -/
theorem zero_andi_bit : ∀ b : BitVec 1, Scalar.andi 0#1 b = 0#1 := by decide
/-- a selection on a false bit is its second operand. -/
theorem select_zero (a b : BitVec 32) : Scalar.select 0#1 a b = b := rfl

/-- Row `q` of step `u` in the result, box `n`, channel `k`. -/
def rix (u q : Fin 7) (n : Fin 1000) (k : Fin 384) : S49x1000x384.Idx :=
  Fin.cons (⟨7 * u.val + q.val, by have := u.isLt; have := q.isLt; show _ < 49; omega⟩ : Fin 49) (Fin.cons n (Fin.cons k finZeroElim))

/-- Row `q`, box `n`, channel `k` of slot `g` in the scratch. -/
def six (g : Fin 2) (q : Fin 7) (n : Fin 1000) (k : Fin 384) : S2x7x1000x384.Idx :=
  Fin.cons g (Fin.cons q (Fin.cons n (Fin.cons k finZeroElim)))

/-- The one-row index of box `n`, channel `k`. -/
def oix (n : Fin 1000) (k : Fin 384) : S1x1000x384.Idx := Fin.cons (0 : Fin 1) (Fin.cons n (Fin.cons k finZeroElim))

section Reads
omit [FloatOps F] [Named F]

/-- Dropping a leading unit axis keeps the other coordinates. -/
theorem drop_lead {α : Type} {m : ℕ} (h : Shape.ShapeCasts (⟨4, ![1, m, 1000, 384]⟩ : Shape) ⟨3, ![m, 1000, 384]⟩) (x : (⟨4, ![1, m, 1000, 384]⟩ : Shape).Idx → α)
    (i : (⟨3, ![m, 1000, 384]⟩ : Shape).Idx) :
    shapeCast ⟨3, ![m, 1000, 384]⟩ x h i = x (Fin.cons (0 : Fin 1) (Fin.cons (i 0) (Fin.cons (i 1) (Fin.cons (i 2) finZeroElim)))) := by
  refine shapeCast_apply x h i _ ?_
  rw [Shape.rowMajor_val_four, Shape.rowMajor_val_three]
  show ((0 * m + (i 0).val) * 1000 + (i 1).val) * 384 + (i 2).val = ((i 0).val * 1000 + (i 1).val) * 384 + (i 2).val
  omega

/-- A slot reads, row by row, the scratch's elements of its index. -/
theorem slot_read (g : Fin 2) (e : S2x7x1000x384.Idx → Elt F .f32) (i : S7x1000x384.Idx) :
    (slot g).view.read (Elt F) e i = e (six g (i 0) (i 1) (i 2)) := by
  have h := congrFun (Memref.read_squeeze_slice (Val := Elt F) scratch (Rect.unit (s := S2x7x1000x384) ![g.val, 0, 0, 0] S1x7x1000x384.size (slot_in g)) (fun _ => rfl) squeezes_S1x7x1000x384_S7x1000x384 (show Shape.ShapeCasts S1x7x1000x384 S7x1000x384 by decide) e) i
  refine h.trans ((drop_lead (m := 7) (show Shape.ShapeCasts S1x7x1000x384 S7x1000x384 by decide) _ i).trans ?_)
  refine congrArg e (funext fun a => Fin.ext ?_)
  show _ + 1 * _ = _
  fin_cases a
  · show g.val + 1 * 0 = g.val; omega
  · show 0 + 1 * (i 0).val = (i 0).val; omega
  · show 0 + 1 * (i 1).val = (i 1).val; omega
  · show 0 + 1 * (i 2).val = (i 2).val; omega
/-- Half A reads rows 0–3; -/
theorem halfA_read (g : Fin 2) (e : S2x7x1000x384.Idx → Elt F .f32) (i : S4x1000x384.Idx) :
    (halfA g).view.read (Elt F) e i = e (six g ⟨(i 0).val, by have h : (i 0).val < 4 := (i 0).isLt; omega⟩ (i 1) (i 2)) := by
  have h := congrFun (Memref.read_squeeze_slice (Val := Elt F) scratch (Rect.unit (s := S2x7x1000x384) ![g.val, 0, 0, 0] S1x4x1000x384.size (halfA_in g)) (fun _ => rfl) squeezes_S1x4x1000x384_S4x1000x384 (show Shape.ShapeCasts S1x4x1000x384 S4x1000x384 by decide) e) i
  refine h.trans ((drop_lead (m := 4) (show Shape.ShapeCasts S1x4x1000x384 S4x1000x384 by decide) _ i).trans ?_)
  refine congrArg e (funext fun a => Fin.ext ?_)
  show _ + 1 * _ = _
  fin_cases a
  · show g.val + 1 * 0 = g.val; omega
  · show 0 + 1 * (i 0).val = (i 0).val; omega
  · show 0 + 1 * (i 1).val = (i 1).val; omega
  · show 0 + 1 * (i 2).val = (i 2).val; omega
/-- half B rows 4–6. -/
theorem halfB_read (g : Fin 2) (e : S2x7x1000x384.Idx → Elt F .f32) (i : S3x1000x384.Idx) :
    (halfB g).view.read (Elt F) e i = e (six g ⟨4 + (i 0).val, by have h : (i 0).val < 3 := (i 0).isLt; omega⟩ (i 1) (i 2)) := by
  have h := congrFun (Memref.read_squeeze_slice (Val := Elt F) scratch (Rect.unit (s := S2x7x1000x384) ![g.val, 4, 0, 0] S1x3x1000x384.size (halfB_in g)) (fun _ => rfl) squeezes_S1x3x1000x384_S3x1000x384 (show Shape.ShapeCasts S1x3x1000x384 S3x1000x384 by decide) e) i
  refine h.trans ((drop_lead (m := 3) (show Shape.ShapeCasts S1x3x1000x384 S3x1000x384 by decide) _ i).trans ?_)
  refine congrArg e (funext fun a => Fin.ext ?_)
  show _ + 1 * _ = _
  fin_cases a
  · show g.val + 1 * 0 = g.val; omega
  · show 4 + 1 * (i 0).val = 4 + (i 0).val; omega
  · show 0 + 1 * (i 1).val = (i 1).val; omega
  · show 0 + 1 * (i 2).val = (i 2).val; omega
/-- The first part of step `u`'s rows reads them from row `7 u`; -/
theorem partA_read (u : Fin 7) (f : S49x1000x384.Idx → Elt F .f32) (i : S4x1000x384.Idx) :
    (partA u).view.read (Elt F) f i = f (rix u ⟨(i 0).val, by have h : (i 0).val < 4 := (i 0).isLt; omega⟩ (i 1) (i 2)) := by
  refine congrArg f (funext fun a => Fin.ext ?_)
  show _ + 1 * _ = _
  fin_cases a
  · show 7 * u.val + 1 * (i 0).val = 7 * u.val + (i 0).val; omega
  · show 0 + 1 * (i 1).val = (i 1).val; omega
  · show 0 + 1 * (i 2).val = (i 2).val; omega
/-- the second from row `7 u + 4`. -/
theorem partB_read (u : Fin 7) (f : S49x1000x384.Idx → Elt F .f32) (i : S3x1000x384.Idx) :
    (partB u).view.read (Elt F) f i = f (rix u ⟨4 + (i 0).val, by have h : (i 0).val < 3 := (i 0).isLt; omega⟩ (i 1) (i 2)) := by
  refine congrArg f (funext fun a => Fin.ext ?_)
  show _ + 1 * _ = _
  fin_cases a
  · show 7 * u.val + 4 + 1 * (i 0).val = 7 * u.val + (4 + (i 0).val); omega
  · show 0 + 1 * (i 1).val = (i 1).val; omega
  · show 0 + 1 * (i 2).val = (i 2).val; omega

end Reads

/-- Slot `g` at contents `e` holds step `u`'s rows of `G`. -/
def Fits (g : Fin 2) (u : Fin 7) (G : S49x1000x384.Idx → Elt F .f32) (e : S2x7x1000x384.Idx → Elt F .f32) : Prop :=
  ∀ q n k, e (six g q n k) = G (rix u q n k)

/-- The seven stores of a step leave the slot holding step `u`'s rows of `G`, if each stored row is `G`'s. -/
theorem store_fits (g : Fin 2) (u : Fin 7) (G : S49x1000x384.Idx → Elt F .f32) (W : Fin 7 → FVec F S1x1000x384 .f32)
    (hG : ∀ q n k, G (rix u q n k) = W q (oix n k)) (e : S2x7x1000x384.Idx → Elt F .f32) :
    Fits g u G ((slot g).view.writes (Elt F) e
      [⟨Rect.unit (s := S7x1000x384) ![6, 0, 0] S1x1000x384.size inb_S7x1000x384_S1x1000x384_6_0_0, W 6⟩,
       ⟨Rect.unit (s := S7x1000x384) ![5, 0, 0] S1x1000x384.size inb_S7x1000x384_S1x1000x384_5_0_0, W 5⟩,
       ⟨Rect.unit (s := S7x1000x384) ![4, 0, 0] S1x1000x384.size inb_S7x1000x384_S1x1000x384_4_0_0, W 4⟩,
       ⟨Rect.unit (s := S7x1000x384) ![3, 0, 0] S1x1000x384.size inb_S7x1000x384_S1x1000x384_3_0_0, W 3⟩,
       ⟨Rect.unit (s := S7x1000x384) ![2, 0, 0] S1x1000x384.size inb_S7x1000x384_S1x1000x384_2_0_0, W 2⟩,
       ⟨Rect.unit (s := S7x1000x384) ![1, 0, 0] S1x1000x384.size inb_S7x1000x384_S1x1000x384_1_0_0, W 1⟩,
       ⟨Rect.unit (s := S7x1000x384) ![0, 0, 0] S1x1000x384.size inb_S7x1000x384_S1x1000x384_0_0_0, W 0⟩]) := by
  intro q n k
  rw [hG q n k]
  have hr := fun e' => slot_read (F := F) g e' (Fin.cons q (Fin.cons n (Fin.cons k finZeroElim)) : S7x1000x384.Idx)
  refine (hr _).symm.trans ?_
  have hmem : ∀ (o : Fin 7) (inb) (L), q = o → (slot g).view.read (Elt F) ((slot g).view.writes (Elt F) e (⟨Rect.unit (s := S7x1000x384) ![o.val, 0, 0] S1x1000x384.size inb, W o⟩ :: L)) (Fin.cons q (Fin.cons n (Fin.cons k finZeroElim)) : S7x1000x384.Idx) = W q (oix n k) := by
    intro o inb L ho
    subst ho
    refine View.read_writes_cons_unit_of_mem (slot g).view e inb (W q) L _ (oix n k) rfl fun a => ?_
    fin_cases a
    · show q.val = q.val + 0; omega
    · show n.val = 0 + n.val; omega
    · show k.val = 0 + k.val; omega
  have hnot : ∀ (o : Fin 7) (inb) (L), q ≠ o → (slot g).view.read (Elt F) ((slot g).view.writes (Elt F) e (⟨Rect.unit (s := S7x1000x384) ![o.val, 0, 0] S1x1000x384.size inb, W o⟩ :: L)) (Fin.cons q (Fin.cons n (Fin.cons k finZeroElim)) : S7x1000x384.Idx) = (slot g).view.read (Elt F) ((slot g).view.writes (Elt F) e L) (Fin.cons q (Fin.cons n (Fin.cons k finZeroElim)) : S7x1000x384.Idx) := by
    intro o inb L ho
    refine View.read_writes_cons_unit_of_not_mem (slot g).view e inb (W o) L _ rfl (0 : Fin 3) ?_
    have : q.val ≠ o.val := fun h => ho (Fin.ext h)
    show q.val < o.val ∨ o.val + 1 ≤ q.val
    omega
  by_cases h6 : q = 6; · exact hmem 6 _ _ h6
  refine (hnot 6 _ _ h6).trans ?_
  by_cases h5 : q = 5; · exact hmem 5 _ _ h5
  refine (hnot 5 _ _ h5).trans ?_
  by_cases h4 : q = 4; · exact hmem 4 _ _ h4
  refine (hnot 4 _ _ h4).trans ?_
  by_cases h3 : q = 3; · exact hmem 3 _ _ h3
  refine (hnot 3 _ _ h3).trans ?_
  by_cases h2 : q = 2; · exact hmem 2 _ _ h2
  refine (hnot 2 _ _ h2).trans ?_
  by_cases h1 : q = 1; · exact hmem 1 _ _ h1
  refine (hnot 1 _ _ h1).trans ?_
  exact hmem 0 _ _ (by omega)

variable (c : Dev nD)

/-- A slot with seven rows stored is a slot at some contents, which fit as soon as each stored row is `G`'s. -/
theorem slot_pack (g : Fin 2) (u : Fin 7) (G : S49x1000x384.Idx → Elt F .f32) (W : Fin 7 → FVec F S1x1000x384 .f32)
    (hG : ∀ q n k, G (rix u q n k) = W q (oix n k)) (e : Buf (Elt F) ((slot g).view.loc (c : Thread nD τ))) {w6 w5 w4 w3 w2 w1 w0 : FVec F S1x1000x384 .f32} :
    slotP c g ((slot g).view.writes (Elt F) e
      [⟨Rect.unit (s := S7x1000x384) ![6, 0, 0] S1x1000x384.size inb_S7x1000x384_S1x1000x384_6_0_0, w6⟩,
       ⟨Rect.unit (s := S7x1000x384) ![5, 0, 0] S1x1000x384.size inb_S7x1000x384_S1x1000x384_5_0_0, w5⟩,
       ⟨Rect.unit (s := S7x1000x384) ![4, 0, 0] S1x1000x384.size inb_S7x1000x384_S1x1000x384_4_0_0, w4⟩,
       ⟨Rect.unit (s := S7x1000x384) ![3, 0, 0] S1x1000x384.size inb_S7x1000x384_S1x1000x384_3_0_0, w3⟩,
       ⟨Rect.unit (s := S7x1000x384) ![2, 0, 0] S1x1000x384.size inb_S7x1000x384_S1x1000x384_2_0_0, w2⟩,
       ⟨Rect.unit (s := S7x1000x384) ![1, 0, 0] S1x1000x384.size inb_S7x1000x384_S1x1000x384_1_0_0, w1⟩,
       ⟨Rect.unit (s := S7x1000x384) ![0, 0, 0] S1x1000x384.size inb_S7x1000x384_S1x1000x384_0_0_0, w0⟩])
    ⊢ iprop(∃ e' : Buf (Elt F) ((slot g).view.loc (c : Thread nD τ)),
        ⌜w6 = W 6 → w5 = W 5 → w4 = W 4 → w3 = W 3 → w2 = W 2 → w1 = W 1 → w0 = W 0 → Fits g u G e'⌝ ∗ slotP c g e') := by
  iintro H
  iexists _
  isplitl []
  rotate_left
  · iexact H
  · ipureintro
    rintro rfl rfl rfl rfl rfl rfl rfl
    exact store_fits g u G W hG e

/-- A part of the result held at contents that read alike is held at either; -/
theorem partA_congr (u : Fin 7) (f f' : S49x1000x384.Idx → Elt F .f32) (h : ∀ y, (partA u).view.read (Elt F) f y = (partA u).view.read (Elt F) f' y) :
    partAP (F := F) c u f = partAP c u f' := by
  refine (partAP_eq c u f).trans (Eq.trans (pointsTo_congr fun i hi => ?_) (partAP_eq c u f').symm)
  have hi' : ∃ y : S4x1000x384.Idx, (Rect.unit (s := S49x1000x384) ![7 * u.val, 0, 0] S4x1000x384.size (partA_in u)).emb y = i := by
    have hi2 := (Finset.ext_iff.1 (Rect.map_emb_univ (Rect.unit (s := S49x1000x384) ![7 * u.val, 0, 0] S4x1000x384.size (partA_in u))) i).2 hi
    obtain ⟨y, -, hy⟩ := Finset.mem_map.1 hi2
    exact ⟨y, hy⟩
  obtain ⟨y, rfl⟩ := hi'
  exact h y
/-- likewise the other part. -/
theorem partB_congr (u : Fin 7) (f f' : S49x1000x384.Idx → Elt F .f32) (h : ∀ y, (partB u).view.read (Elt F) f y = (partB u).view.read (Elt F) f' y) :
    partBP (F := F) c u f = partBP c u f' := by
  refine (partBP_eq c u f).trans (Eq.trans (pointsTo_congr fun i hi => ?_) (partBP_eq c u f').symm)
  have hi' : ∃ y : S3x1000x384.Idx, (Rect.unit (s := S49x1000x384) ![7 * u.val + 4, 0, 0] S3x1000x384.size (partB_in u)).emb y = i := by
    have hi2 := (Finset.ext_iff.1 (Rect.map_emb_univ (Rect.unit (s := S49x1000x384) ![7 * u.val + 4, 0, 0] S3x1000x384.size (partB_in u))) i).2 hi
    obtain ⟨y, -, hy⟩ := Finset.mem_map.1 hi2
    exact ⟨y, hy⟩
  obtain ⟨y, rfl⟩ := hi'
  exact h y

/-- The first part of the result, written with a fitting slot's half A, is at `G`; -/
theorem partA_land (g : Fin 2) (u : Fin 7) (G : S49x1000x384.Idx → Elt F .f32) (e : S2x7x1000x384.Idx → Elt F .f32) (h : Fits g u G e)
    (fa : S49x1000x384.Idx → Elt F .f32) :
    partAP (F := F) c u ((partA u).view.writes (Elt F) fa [⟨Rect.whole S4x1000x384, ReadAs.same.apply ((halfA g).view.read (Elt F) e)⟩]) = partAP c u G := by
  have key : ∀ y, (partA u).view.read (Elt F) ((partA u).view.writes (Elt F) fa [⟨Rect.whole S4x1000x384, ReadAs.same.apply ((halfA g).view.read (Elt F) e)⟩]) y = (partA u).view.read (Elt F) G y := fun y =>
    (congrFun (View.read_writes_whole (Val := Elt F) (partA u).view fa (ReadAs.same.apply ((halfA g).view.read (Elt F) e))) y).trans ((halfA_read g e y).trans ((h _ _ _).trans (partA_read u G y).symm))
  generalize (partA u).view.writes (Elt F) fa [⟨Rect.whole S4x1000x384, ReadAs.same.apply ((halfA g).view.read (Elt F) e)⟩] = f at key ⊢
  exact partA_congr c u f G key
/-- the second part, with its half B, too. -/
theorem partB_land (g : Fin 2) (u : Fin 7) (G : S49x1000x384.Idx → Elt F .f32) (e : S2x7x1000x384.Idx → Elt F .f32) (h : Fits g u G e)
    (fa : S49x1000x384.Idx → Elt F .f32) :
    partBP (F := F) c u ((partB u).view.writes (Elt F) fa [⟨Rect.whole S3x1000x384, ReadAs.same.apply ((halfB g).view.read (Elt F) e)⟩]) = partBP c u G := by
  have key : ∀ y, (partB u).view.read (Elt F) ((partB u).view.writes (Elt F) fa [⟨Rect.whole S3x1000x384, ReadAs.same.apply ((halfB g).view.read (Elt F) e)⟩]) y = (partB u).view.read (Elt F) G y := fun y =>
    (congrFun (View.read_writes_whole (Val := Elt F) (partB u).view fa (ReadAs.same.apply ((halfB g).view.read (Elt F) e))) y).trans ((halfB_read g e y).trans ((h _ _ _).trans (partB_read u G y).symm))
  generalize (partB u).view.writes (Elt F) fa [⟨Rect.whole S3x1000x384, ReadAs.same.apply ((halfB g).view.read (Elt F) e)⟩] = f at key ⊢
  exact partB_congr c u f G key

/-- So the flight that carries it is a flight at `G`; -/
theorem flightA_land (g : Fin 2) (u : Fin 7) (G : S49x1000x384.Idx → Elt F .f32) (e : S2x7x1000x384.Idx → Elt F .f32) (h : Fits g u G e)
    (fa : S49x1000x384.Idx → Elt F .f32) :
    Transfers.Flight countersEmb (c : Thread nD τ) (semA g) default 192000 iprop(partAP (F := F) c u ((partA u).view.writes (Elt F) fa [⟨Rect.whole S4x1000x384, ReadAs.same.apply ((halfA g).view.read (Elt F) e)⟩]) ∗ halfAP c g e) ⊢ flightA c g u G e := by
  rw [partA_land c g u G e h fa]
  exact .rfl
/-- likewise the other. -/
theorem flightB_land (g : Fin 2) (u : Fin 7) (G : S49x1000x384.Idx → Elt F .f32) (e : S2x7x1000x384.Idx → Elt F .f32) (h : Fits g u G e)
    (fa : S49x1000x384.Idx → Elt F .f32) :
    Transfers.Flight countersEmb (c : Thread nD τ) (semB g) default 144000 iprop(partBP (F := F) c u ((partB u).view.writes (Elt F) fa [⟨Rect.whole S3x1000x384, ReadAs.same.apply ((halfB g).view.read (Elt F) e)⟩]) ∗ halfBP c g e) ⊢ flightB c g u G e := by
  rw [partB_land c g u G e h fa]
  exact .rfl

end Cert.KernelIdeal.Roi

end
-- ==== Proof.KernelIdeal.Point.lean ====
/- One row of the kernel's result as a function: for a pooled column and row the kernel forms, from the five rows of the
   proposals and the 4×4 corner of both feature maps, the 32 weights of every box (one for each map, row and column of the
   corner) and contracts them with the 32 corner pixels. `point` is that value; the runs of the kernel's body store it, and
   the value proof reads it. -/
module

public import proofs.«01_k».proof.Proof.Gen.KernelIdeal.Skeleton

@[expose] public section

set_option maxRecDepth 16384

noncomputable section

namespace Cert.KernelIdeal.Roi

open Idealize.ShloMosaic Idealize.ShloMosaic.TcCoe
open Cert.KernelIdeal Cert.KernelIdeal.Gen

variable {F : FTy → Type} [FloatOps F] [Named F]

/-- The affine grid's base coordinate of a row or column. -/
def gridAt (k : BitVec 32) : F .f32 :=
  Scalar.subf (Scalar.mulf (Scalar.addf (Scalar.mulf (Scalar.ofBits .f32 0x40000000#32) (Scalar.sitofp .f32 k)) (Scalar.ofBits .f32 0x3F800000#32)) (Named.named κ "inv_seven" 0x3E124925#32)) (Scalar.ofBits .f32 0x3F800000#32)

/-- A row of the proposals, reshaped to itself. -/
def row1 (v : Vec F S1x1000 .f32) : FVec F S1x1000 .f32 := shapeCast S1x1000 v shapeCasts_S1x1000_S1x1000

/-- The rotation angle in radians, negated. -/
def angle (v : Vec F S1x1000 .f32) : FVec F S1x1000 .f32 := mulf (row1 v) (broadcast S1x1000 (Named.named κ "neg_degree" 0xBC8EFA35#32))

/-- From the normalized sampling coordinate to the pixel coordinate of a 64-wide map. -/
def pixel (g : FVec F S1x1000 .f32) : FVec F S1x1000 .f32 :=
  mulf (subf (mulf (addf g (broadcast S1x1000 (Scalar.ofBits .f32 0x3F800000#32))) (broadcast S1x1000 (Scalar.ofBits .f32 0x42800000#32))) (broadcast S1x1000 (Scalar.ofBits .f32 0x3F800000#32))) (broadcast S1x1000 (Scalar.ofBits .f32 0x3F000000#32))

/-- The pixel column of every box at grid coordinates `gx`, `gy`. -/
def pixX (gx gy : F .f32) (cx w h a : Vec F S1x1000 .f32) : FVec F S1x1000 .f32 :=
  pixel (addf (addf
      (mulf (mulf (row1 w) (mulf (cos (angle a)) (broadcast S1x1000 (Scalar.ofBits .f32 0x3C800000#32)))) (broadcast S1x1000 gx))
      (mulf (mulf (subf (broadcast S1x1000 (Scalar.ofBits .f32 0x00000000#32)) (mulf (row1 h) (broadcast S1x1000 (Scalar.ofBits .f32 0x3C800000#32)))) (sin (angle a))) (broadcast S1x1000 gy)))
    (subf (mulf (row1 cx) (broadcast S1x1000 (Scalar.ofBits .f32 0x3D000000#32))) (broadcast S1x1000 (Scalar.ofBits .f32 0x3F800000#32))))

/-- The pixel row of every box at grid coordinates `gx`, `gy`. -/
def pixY (gx gy : F .f32) (cy w h a : Vec F S1x1000 .f32) : FVec F S1x1000 .f32 :=
  pixel (addf (addf
      (mulf (mulf (mulf (row1 w) (broadcast S1x1000 (Scalar.ofBits .f32 0x3C800000#32))) (sin (angle a))) (broadcast S1x1000 gx))
      (mulf (mulf (mulf (row1 h) (broadcast S1x1000 (Scalar.ofBits .f32 0x3C800000#32))) (cos (angle a))) (broadcast S1x1000 gy)))
    (subf (mulf (row1 cy) (broadcast S1x1000 (Scalar.ofBits .f32 0x3D000000#32))) (broadcast S1x1000 (Scalar.ofBits .f32 0x3F800000#32))))

/-- One where the pixel `k` (as bits) is `x`, zero elsewhere. -/
def hit (x : FVec F S1x1000 .f32) (k : BitVec 32) : FVec F S1x1000 .f32 :=
  sitofp .f32 (extui 32 (cmpf .oeq x (broadcast S1x1000 (Scalar.ofBits .f32 k))) natLt_1_32)

/-- The weight the coordinate `x` gives pixel `k`, whose left neighbour is `k'`: what is left of the fraction if `k` is
    the floor, the fraction if `k'` is. -/
def bin (x : FVec F S1x1000 .f32) (k k' : BitVec 32) : FVec F S1x1000 .f32 :=
  addf (mulf (subf (broadcast S1x1000 (Scalar.ofBits .f32 0x3F800000#32)) (subf x (floor x))) (hit (floor x) k)) (mulf (subf x (floor x)) (hit (floor x) k'))

/-- The four weights of a coordinate. -/
def bins (x : FVec F S1x1000 .f32) (j : Fin 4) : FVec F S1x1000 .f32 :=
  bin x (![0x00000000#32, 0x3F800000#32, 0x40000000#32, 0x40400000#32] j) (![0xBF800000#32, 0x00000000#32, 0x3F800000#32, 0x40000000#32] j)

/-- One for the boxes of the first map. -/
def inFirst : FVec F S1x1000 .f32 :=
  sitofp .f32 (extui 32 (cmpi .slt (iota .tc S1x1000 32 [1] iota_S1x1000_d1_w32) (broadcast S1x1000 500#32)) natLt_1_32)
/-- One for the boxes of the second map. -/
def inSecond : FVec F S1x1000 .f32 := subf (broadcast S1x1000 (Scalar.ofBits .f32 0x3F800000#32)) inFirst

/-- The weight of corner pixel `ky`, `kx` of the map that `m` marks. -/
def wt (m : FVec F S1x1000 .f32) (y x : FVec F S1x1000 .f32) (ky kx : Fin 4) : FVec F S1x1000 .f32 := mulf (mulf (bins y ky) m) (bins x kx)

/-- All 32 weights, by map, pixel row and pixel column. -/
def weights (y x : FVec F S1x1000 .f32) : FVec F S32x1000 .f32 :=
  concatenate S32x1000 0 [⟨S1x1000, wt inFirst y x 0 0⟩, ⟨S1x1000, wt inFirst y x 0 1⟩, ⟨S1x1000, wt inFirst y x 0 2⟩, ⟨S1x1000, wt inFirst y x 0 3⟩, ⟨S1x1000, wt inFirst y x 1 0⟩, ⟨S1x1000, wt inFirst y x 1 1⟩, ⟨S1x1000, wt inFirst y x 1 2⟩, ⟨S1x1000, wt inFirst y x 1 3⟩, ⟨S1x1000, wt inFirst y x 2 0⟩, ⟨S1x1000, wt inFirst y x 2 1⟩, ⟨S1x1000, wt inFirst y x 2 2⟩, ⟨S1x1000, wt inFirst y x 2 3⟩, ⟨S1x1000, wt inFirst y x 3 0⟩, ⟨S1x1000, wt inFirst y x 3 1⟩, ⟨S1x1000, wt inFirst y x 3 2⟩, ⟨S1x1000, wt inFirst y x 3 3⟩, ⟨S1x1000, wt inSecond y x 0 0⟩, ⟨S1x1000, wt inSecond y x 0 1⟩, ⟨S1x1000, wt inSecond y x 0 2⟩, ⟨S1x1000, wt inSecond y x 0 3⟩, ⟨S1x1000, wt inSecond y x 1 0⟩, ⟨S1x1000, wt inSecond y x 1 1⟩, ⟨S1x1000, wt inSecond y x 1 2⟩, ⟨S1x1000, wt inSecond y x 1 3⟩, ⟨S1x1000, wt inSecond y x 2 0⟩, ⟨S1x1000, wt inSecond y x 2 1⟩, ⟨S1x1000, wt inSecond y x 2 2⟩, ⟨S1x1000, wt inSecond y x 2 3⟩, ⟨S1x1000, wt inSecond y x 3 0⟩, ⟨S1x1000, wt inSecond y x 3 1⟩, ⟨S1x1000, wt inSecond y x 3 2⟩, ⟨S1x1000, wt inSecond y x 3 3⟩] concatenates_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S1x1000_S32x1000_d0

/-- A row of corner pixels, its two unit axes dropped. -/
def pix4 (v : Vec F S1x1x4x384 .f32) : FVec F S4x384 .f32 := shapeCast S4x384 v shapeCasts_S1x1x4x384_S4x384

/-- The 32 corner pixels, by map, pixel row and pixel column. -/
def corner (b : Fin 2 → Fin 4 → Vec F S1x1x4x384 .f32) : FVec F S32x384 .f32 :=
  concatenate S32x384 0 [⟨S4x384, pix4 (b 0 0)⟩, ⟨S4x384, pix4 (b 0 1)⟩, ⟨S4x384, pix4 (b 0 2)⟩, ⟨S4x384, pix4 (b 0 3)⟩, ⟨S4x384, pix4 (b 1 0)⟩, ⟨S4x384, pix4 (b 1 1)⟩, ⟨S4x384, pix4 (b 1 2)⟩, ⟨S4x384, pix4 (b 1 3)⟩] concatenates_S4x384_S4x384_S4x384_S4x384_S4x384_S4x384_S4x384_S4x384_S32x384_d0

/-- The result at pooled column `col` and row `row`: the weights contracted with the corner pixels. -/
def point (col row : BitVec 32) (v : Fin 5 → Vec F S1x1000 .f32) (b : Fin 2 → Fin 4 → Vec F S1x1x4x384 .f32) : FVec F S1x1000x384 .f32 :=
  shapeCast S1x1000x384 (matmul dot_S32x1000_S32x384_S1000x384_0_0_1_1_n_n none
      (weights (pixY (gridAt col) (gridAt row) (v 1) (v 2) (v 3) (v 4)) (pixX (gridAt col) (gridAt row) (v 0) (v 2) (v 3) (v 4)))
      (corner b) (constant S1000x384 .f32 0x00000000#32)) shapeCasts_S1000x384_S1x1000x384

/-- Row `k` of the staged proposals, as the body loads it. -/
def propRow (arg1 : Memref sig .tc .vmem S5x1000 .f32) (f : arg1.view.ty.Contents (Elt F)) : Fin 5 → Vec F S1x1000 .f32 := ![
  View.readAt (Elt F) arg1.view (Rect.unit (s := S5x1000) ![0, 0] S1x1000.size inb_S5x1000_S1x1000_0_0).toLoadRect f,
  View.readAt (Elt F) arg1.view (Rect.unit (s := S5x1000) ![1, 0] S1x1000.size inb_S5x1000_S1x1000_1_0).toLoadRect f,
  View.readAt (Elt F) arg1.view (Rect.unit (s := S5x1000) ![2, 0] S1x1000.size inb_S5x1000_S1x1000_2_0).toLoadRect f,
  View.readAt (Elt F) arg1.view (Rect.unit (s := S5x1000) ![3, 0] S1x1000.size inb_S5x1000_S1x1000_3_0).toLoadRect f,
  View.readAt (Elt F) arg1.view (Rect.unit (s := S5x1000) ![4, 0] S1x1000.size inb_S5x1000_S1x1000_4_0).toLoadRect f]

/-- Row `y` of map `b`'s corner, as the body loads it. -/
def mapRow (arg2 : Memref sig .tc .vmem S2x4x8x384 .f32) (f : arg2.view.ty.Contents (Elt F)) : Fin 2 → Fin 4 → Vec F S1x1x4x384 .f32 := ![![
  View.readAt (Elt F) arg2.view (Rect.unit (s := S2x4x8x384) ![0, 0, 0, 0] S1x1x4x384.size inb_S2x4x8x384_S1x1x4x384_0_0_0_0).toLoadRect f,
  View.readAt (Elt F) arg2.view (Rect.unit (s := S2x4x8x384) ![0, 1, 0, 0] S1x1x4x384.size inb_S2x4x8x384_S1x1x4x384_0_1_0_0).toLoadRect f,
  View.readAt (Elt F) arg2.view (Rect.unit (s := S2x4x8x384) ![0, 2, 0, 0] S1x1x4x384.size inb_S2x4x8x384_S1x1x4x384_0_2_0_0).toLoadRect f,
  View.readAt (Elt F) arg2.view (Rect.unit (s := S2x4x8x384) ![0, 3, 0, 0] S1x1x4x384.size inb_S2x4x8x384_S1x1x4x384_0_3_0_0).toLoadRect f], ![
  View.readAt (Elt F) arg2.view (Rect.unit (s := S2x4x8x384) ![1, 0, 0, 0] S1x1x4x384.size inb_S2x4x8x384_S1x1x4x384_1_0_0_0).toLoadRect f,
  View.readAt (Elt F) arg2.view (Rect.unit (s := S2x4x8x384) ![1, 1, 0, 0] S1x1x4x384.size inb_S2x4x8x384_S1x1x4x384_1_1_0_0).toLoadRect f,
  View.readAt (Elt F) arg2.view (Rect.unit (s := S2x4x8x384) ![1, 2, 0, 0] S1x1x4x384.size inb_S2x4x8x384_S1x1x4x384_1_2_0_0).toLoadRect f,
  View.readAt (Elt F) arg2.view (Rect.unit (s := S2x4x8x384) ![1, 3, 0, 0] S1x1x4x384.size inb_S2x4x8x384_S1x1x4x384_1_3_0_0).toLoadRect f]]

end Cert.KernelIdeal.Roi

end
-- ==== Proof.KernelIdeal.Run.lean ====
module

public import proofs.«01_k».proof.Proof.KernelIdeal.Land
public import proofs.«01_k».proof.Proof.KernelIdeal.Point

@[expose] public section

set_option maxRecDepth 16384

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 4000000 in
/-- A step with no copy to await (steps 0 and 1): it writes its seven rows to its free slot and sends them off, at the rows `point` says. -/
theorem run_boot (c : Dev nD) (t : Fin cfg0.N) (arg1 : Memref sig .tc .vmem S5x1000 .f32) (harg1 : arg1.IsWhole) (arg2 : Memref sig .tc .vmem S2x4x8x384 .f32) (harg2 : arg2.IsWhole)
    (hc0 : ¬k0_cond1 (grid0.coords t) = 1#1) (hc1 : ¬k0_cond2 (grid0.coords t) = 1#1)
    (x0 : Vec F S5x1000 .f32) (x1 : Vec F S2x4x8x384 .f32) (G : S49x1000x384.Idx → Elt F .f32)
    (hG : ∀ q n k, G (rix (Ring.bk 7 t.val) q n k) = point (BitVec.ofNat 32 q.val) (BitVec.ofNat 32 t.val) (propRow arg1 (harg1.unread x0)) (mapRow arg2 (harg2.unread x1)) (oix n k)) :
      ∀ (W : Waits sig Unit) (K : PUnit → sProp 𝕄),
        iprop(owns (c : Thread nD τ) arg1 fullShare x0 ∗ owns (c : Thread nD τ) arg2 fullShare x1 ∗ (∃ f, pieceP c (Ring.bk 7 t.val) f) ∗ zeroA c (Ring.sl 2 t.val) ∗ zeroB c (Ring.sl 2 t.val) ∗ (∃ e, slotP c (Ring.sl 2 t.val) e)
            ∗ owes (c : Thread nD τ) 0 W
            ∗ (iprop(owns (c : Thread nD τ) arg1 fullShare x0 ∗ owns (c : Thread nD τ) arg2 fullShare x1 ∗ (∃ e, flightA c (Ring.sl 2 t.val) (Ring.bk 7 t.val) G e) ∗ (∃ e, flightB c (Ring.sl 2 t.val) (Ring.bk 7 t.val) G e) ∗ (∃ W', owes (c : Thread nD τ) 0 W')) -∗ K ⟨⟩))
          ⊢ wp frame (wpE (defs₀ (F := F)) Variants.none c none) Set.univ (cc0__body (grid0.coords t) arg1 harg1 arg2 harg2 (Memref.whole main_v3) (Memref.isWhole_whole _) scratch (Memref.isWhole_whole _) cc0_scratch1) K := by
    intro W K
    haveI : Fact (¬k0_cond1 (grid0.coords t) = 1#1) := ⟨hc0⟩
    haveI : Fact (¬k0_cond2 (grid0.coords t) = 1#1) := ⟨hc1⟩
    simp only [cc0__body_eq_skeleton]; unfold cc0__body_skel
    simp only [k0_part47_eq_skeleton]; unfold k0_part47_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%fa, Hp⟩, HqA, HqB, ⟨%e0, Hs⟩, HW, Hk⟩
    obtain rfl := harg1.eq_unread hf0; obtain rfl := harg2.eq_unread hf1
    have hcanon0 := off7_canon t
    have hcanon1 := off7_canon' t
    set_option sl_exec.stopBefore "k0_part46" in sl_exec (disch := first | sl_exact hc0 | sl_exact hc1)
    set_option sl_exec.maxSteps 9 in sl_exec (disch := first | sl_exact hc0 | sl_exact hc1)
    ihave Hs'' := (slot_pack c (Ring.sl 2 t.val) (Ring.bk 7 t.val) G (fun q => point (BitVec.ofNat 32 q.val) (BitVec.ofNat 32 t.val) (propRow arg1 (harg1.unread x0)) (mapRow arg2 (harg2.unread x1))) hG e0) $$ Hs
    icases Hs'' with ⟨%e1, %hfit', Hs⟩
    have hfit : Fits (Ring.sl 2 t.val) (Ring.bk 7 t.val) G e1 := by
      revert hfit'
      sl_unfold_run_names
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay32, k0_pay33, k0_pay34, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay160, k0_pay161, k0_pay162, k0_pay163, k0_pay164, k0_pay165, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay197, k0_pay198, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay322, k0_pay323, k0_pay324, k0_pay325, k0_pay326, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay360, k0_pay361, pos_rem, pos_div, pos_pos, pos_neg, word_consts, row_words, andi_zero_bit, zero_andi_bit, select_zero]
      simp only [k0_pay31, k0_pay35, k0_pay106, k0_pay159, k0_pay166, k0_pay196, k0_pay199, k0_pay268, k0_pay321, k0_pay327, k0_pay359, k0_pay362, point, weights, wt, bins, bin, hit, pixX, pixY, pixel, angle, row1, gridAt, corner, pix4, propRow, mapRow, inFirst, inSecond, Matrix.cons_val, forall_const, imp_self]
    clear hfit'
    ihave Hs' := (slot_split c (Ring.sl 2 t.val) _) $$ Hs
    icases Hs' with ⟨HtA, HtB⟩
    ihave Hp' := (piece_split c (Ring.bk 7 t.val) _) $$ Hp
    icases Hp' with ⟨HpA, HpB⟩
    sl_exec (disch := first | sl_exact hc0 | sl_exact hc1)
    sl_step
    sl_unfold_run_names
    ihave HfA := (flightA_land c (Ring.sl 2 t.val) (Ring.bk 7 t.val) G e1 hfit fa) $$ HqA
    ihave HfB := (flightB_land c (Ring.sl 2 t.val) (Ring.bk 7 t.val) G e1 hfit fa) $$ HqB
    iapply Hk
    isplitl [H0]; · iexists _; isplitr; · ipureintro; exact harg1.read_unread _
                    iexact H0
    isplitl [H1]; · iexists _; isplitr; · ipureintro; exact harg2.read_unread _
                    iexact H1
    isplitl [HfA]; · iexists _; iexact HfA
    isplitl [HfB]; · iexists _; iexact HfB
    iexists _; iexact HW

set_option maxHeartbeats 4000000 in
/-- A step that first awaits the copy of two steps before (steps 2 to 5), then writes and sends its own. -/
theorem run_steady (c : Dev nD) (t : Fin cfg0.N) (arg1 : Memref sig .tc .vmem S5x1000 .f32) (harg1 : arg1.IsWhole) (arg2 : Memref sig .tc .vmem S2x4x8x384 .f32) (harg2 : arg2.IsWhole)
    (hc0 : k0_cond1 (grid0.coords t) = 1#1) (hc1 : ¬k0_cond2 (grid0.coords t) = 1#1)
    (x0 : Vec F S5x1000 .f32) (x1 : Vec F S2x4x8x384 .f32) (G : S49x1000x384.Idx → Elt F .f32)
    (hG : ∀ q n k, G (rix (Ring.bk 7 t.val) q n k) = point (BitVec.ofNat 32 q.val) (BitVec.ofNat 32 t.val) (propRow arg1 (harg1.unread x0)) (mapRow arg2 (harg2.unread x1)) (oix n k)) :
      ∀ (W : Waits sig Unit) (K : PUnit → sProp 𝕄),
        iprop(owns (c : Thread nD τ) arg1 fullShare x0 ∗ owns (c : Thread nD τ) arg2 fullShare x1 ∗ (∃ f, pieceP c (Ring.bk 7 t.val) f) ∗ (∃ e, flightA c (Ring.sl 2 t.val) (Ring.bk 7 (t.val - 2)) G e) ∗ (∃ e, flightB c (Ring.sl 2 t.val) (Ring.bk 7 (t.val - 2)) G e)
            ∗ owes (c : Thread nD τ) 0 W
            ∗ (iprop(owns (c : Thread nD τ) arg1 fullShare x0 ∗ owns (c : Thread nD τ) arg2 fullShare x1 ∗ pieceP c (Ring.bk 7 (t.val - 2)) G ∗ (∃ e, flightA c (Ring.sl 2 t.val) (Ring.bk 7 t.val) G e) ∗ (∃ e, flightB c (Ring.sl 2 t.val) (Ring.bk 7 t.val) G e) ∗ (∃ W', owes (c : Thread nD τ) 0 W')) -∗ K ⟨⟩))
          ⊢ wp frame (wpE (defs₀ (F := F)) Variants.none c none) Set.univ (cc0__body (grid0.coords t) arg1 harg1 arg2 harg2 (Memref.whole main_v3) (Memref.isWhole_whole _) scratch (Memref.isWhole_whole _) cc0_scratch1) K := by
    intro W K
    haveI : Fact (k0_cond1 (grid0.coords t) = 1#1) := ⟨hc0⟩
    haveI : Fact (¬k0_cond2 (grid0.coords t) = 1#1) := ⟨hc1⟩
    simp only [cc0__body_eq_skeleton]; unfold cc0__body_skel
    simp only [k0_part47_eq_skeleton]; unfold k0_part47_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%fa, Hp⟩, ⟨%ea, HFA⟩, ⟨%eb, HFB⟩, HW, Hk⟩
    obtain rfl := harg1.eq_unread hf0; obtain rfl := harg2.eq_unread hf1
    have hcanon0 := off7_canon t
    have hcanon1 := off7_canon' t
    set_option sl_exec.stopBefore "k0_part3" in sl_exec (disch := first | sl_exact hc0 | sl_exact hc1)
    ihave Hs0 := (slot_join c (Ring.sl 2 t.val) ea eb) $$ [HFA_src HFB_src]
    · isplitl [HFA_src]; · iexact HFA_src
      iexact HFB_src
    icases Hs0 with ⟨%e0, Hs⟩
    ihave Hback := (piece_join c (Ring.bk 7 (t.val - 2)) G) $$ [HFA_dst HFB_dst]
    · isplitl [HFA_dst]; · iexact HFA_dst
      iexact HFB_dst
    set_option sl_exec.stopBefore "k0_part46" in sl_exec (disch := first | sl_exact hc0 | sl_exact hc1)
    set_option sl_exec.maxSteps 9 in sl_exec (disch := first | sl_exact hc0 | sl_exact hc1)
    ihave Hs'' := (slot_pack c (Ring.sl 2 t.val) (Ring.bk 7 t.val) G (fun q => point (BitVec.ofNat 32 q.val) (BitVec.ofNat 32 t.val) (propRow arg1 (harg1.unread x0)) (mapRow arg2 (harg2.unread x1))) hG e0) $$ Hs
    icases Hs'' with ⟨%e1, %hfit', Hs⟩
    have hfit : Fits (Ring.sl 2 t.val) (Ring.bk 7 t.val) G e1 := by
      revert hfit'
      sl_unfold_run_names
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay32, k0_pay33, k0_pay34, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay160, k0_pay161, k0_pay162, k0_pay163, k0_pay164, k0_pay165, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay197, k0_pay198, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay322, k0_pay323, k0_pay324, k0_pay325, k0_pay326, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay360, k0_pay361, pos_rem, pos_div, pos_pos, pos_neg, word_consts, row_words, andi_zero_bit, zero_andi_bit, select_zero]
      simp only [k0_pay31, k0_pay35, k0_pay106, k0_pay159, k0_pay166, k0_pay196, k0_pay199, k0_pay268, k0_pay321, k0_pay327, k0_pay359, k0_pay362, point, weights, wt, bins, bin, hit, pixX, pixY, pixel, angle, row1, gridAt, corner, pix4, propRow, mapRow, inFirst, inSecond, Matrix.cons_val, forall_const, imp_self]
    clear hfit'
    ihave Hs' := (slot_split c (Ring.sl 2 t.val) _) $$ Hs
    icases Hs' with ⟨HtA, HtB⟩
    ihave Hp' := (piece_split c (Ring.bk 7 t.val) _) $$ Hp
    icases Hp' with ⟨HpA, HpB⟩
    sl_exec (disch := first | sl_exact hc0 | sl_exact hc1)
    sl_step
    sl_unfold_run_names
    ihave HfA := (flightA_land c (Ring.sl 2 t.val) (Ring.bk 7 t.val) G e1 hfit fa) $$ HFA
    ihave HfB := (flightB_land c (Ring.sl 2 t.val) (Ring.bk 7 t.val) G e1 hfit fa) $$ HFB
    iapply Hk
    isplitl [H0]; · iexists _; isplitr; · ipureintro; exact harg1.read_unread _
                    iexact H0
    isplitl [H1]; · iexists _; isplitr; · ipureintro; exact harg2.read_unread _
                    iexact H1
    isplitl [Hback]; · iexact Hback
    isplitl [HfA]; · iexists _; iexact HfA
    isplitl [HfB]; · iexists _; iexact HfB
    iexists _; iexact HW

set_option maxHeartbeats 4000000 in
/-- The last step: it also awaits the copy of the step before and its own, so nothing is left in flight. -/
theorem run_last (c : Dev nD) (t : Fin cfg0.N) (arg1 : Memref sig .tc .vmem S5x1000 .f32) (harg1 : arg1.IsWhole) (arg2 : Memref sig .tc .vmem S2x4x8x384 .f32) (harg2 : arg2.IsWhole)
    (hc0 : k0_cond1 (grid0.coords t) = 1#1) (hc1 : k0_cond2 (grid0.coords t) = 1#1)
    (x0 : Vec F S5x1000 .f32) (x1 : Vec F S2x4x8x384 .f32) (G : S49x1000x384.Idx → Elt F .f32)
    (hG : ∀ q n k, G (rix (Ring.bk 7 t.val) q n k) = point (BitVec.ofNat 32 q.val) (BitVec.ofNat 32 t.val) (propRow arg1 (harg1.unread x0)) (mapRow arg2 (harg2.unread x1)) (oix n k)) :
      ∀ (W : Waits sig Unit) (K : PUnit → sProp 𝕄),
        iprop(owns (c : Thread nD τ) arg1 fullShare x0 ∗ owns (c : Thread nD τ) arg2 fullShare x1 ∗ (∃ f, pieceP c (Ring.bk 7 t.val) f) ∗ (∃ e, flightA c (Ring.sl 2 t.val) (Ring.bk 7 (t.val - 2)) G e) ∗ (∃ e, flightB c (Ring.sl 2 t.val) (Ring.bk 7 (t.val - 2)) G e) ∗ (∃ e, flightA c (Ring.sl 2 (t.val + 1)) (Ring.bk 7 (t.val - 1)) G e) ∗ (∃ e, flightB c (Ring.sl 2 (t.val + 1)) (Ring.bk 7 (t.val - 1)) G e)
            ∗ owes (c : Thread nD τ) 0 W
            ∗ (iprop(owns (c : Thread nD τ) arg1 fullShare x0 ∗ owns (c : Thread nD τ) arg2 fullShare x1 ∗ pieceP c (Ring.bk 7 t.val) G ∗ pieceP c (Ring.bk 7 (t.val - 2)) G ∗ pieceP c (Ring.bk 7 (t.val - 1)) G ∗ zeroA c (Ring.sl 2 t.val) ∗ zeroB c (Ring.sl 2 t.val) ∗ (∃ e, slotP c (Ring.sl 2 t.val) e) ∗ zeroA c (Ring.sl 2 (t.val + 1)) ∗ zeroB c (Ring.sl 2 (t.val + 1)) ∗ (∃ e, slotP c (Ring.sl 2 (t.val + 1)) e) ∗ (∃ W', owes (c : Thread nD τ) 0 W')) -∗ K ⟨⟩))
          ⊢ wp frame (wpE (defs₀ (F := F)) Variants.none c none) Set.univ (cc0__body (grid0.coords t) arg1 harg1 arg2 harg2 (Memref.whole main_v3) (Memref.isWhole_whole _) scratch (Memref.isWhole_whole _) cc0_scratch1) K := by
    intro W K
    haveI : Fact (k0_cond1 (grid0.coords t) = 1#1) := ⟨hc0⟩
    haveI : Fact (k0_cond2 (grid0.coords t) = 1#1) := ⟨hc1⟩
    simp only [cc0__body_eq_skeleton]; unfold cc0__body_skel
    simp only [k0_part47_eq_skeleton]; unfold k0_part47_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%fa, Hp⟩, ⟨%ea, HFA⟩, ⟨%eb, HFB⟩, ⟨%ec, HIA⟩, ⟨%ed, HIB⟩, HW, Hk⟩
    obtain rfl := harg1.eq_unread hf0; obtain rfl := harg2.eq_unread hf1
    have hcanon0 := off7_canon t
    have hcanon1 := off7_canon' t
    set_option sl_exec.stopBefore "k0_part3" in sl_exec (disch := first | sl_exact hc0 | sl_exact hc1)
    ihave Hs0 := (slot_join c (Ring.sl 2 t.val) ea eb) $$ [HFA_src HFB_src]
    · isplitl [HFA_src]; · iexact HFA_src
      iexact HFB_src
    icases Hs0 with ⟨%e0, Hs⟩
    ihave Hback := (piece_join c (Ring.bk 7 (t.val - 2)) G) $$ [HFA_dst HFB_dst]
    · isplitl [HFA_dst]; · iexact HFA_dst
      iexact HFB_dst
    set_option sl_exec.stopBefore "k0_part46" in sl_exec (disch := first | sl_exact hc0 | sl_exact hc1)
    set_option sl_exec.maxSteps 9 in sl_exec (disch := first | sl_exact hc0 | sl_exact hc1)
    ihave Hs'' := (slot_pack c (Ring.sl 2 t.val) (Ring.bk 7 t.val) G (fun q => point (BitVec.ofNat 32 q.val) (BitVec.ofNat 32 t.val) (propRow arg1 (harg1.unread x0)) (mapRow arg2 (harg2.unread x1))) hG e0) $$ Hs
    icases Hs'' with ⟨%e1, %hfit', Hs⟩
    have hfit : Fits (Ring.sl 2 t.val) (Ring.bk 7 t.val) G e1 := by
      revert hfit'
      sl_unfold_run_names
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay32, k0_pay33, k0_pay34, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay160, k0_pay161, k0_pay162, k0_pay163, k0_pay164, k0_pay165, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay197, k0_pay198, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay322, k0_pay323, k0_pay324, k0_pay325, k0_pay326, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay360, k0_pay361, pos_rem, pos_div, pos_pos, pos_neg, word_consts, row_words, andi_zero_bit, zero_andi_bit, select_zero]
      simp only [k0_pay31, k0_pay35, k0_pay106, k0_pay159, k0_pay166, k0_pay196, k0_pay199, k0_pay268, k0_pay321, k0_pay327, k0_pay359, k0_pay362, point, weights, wt, bins, bin, hit, pixX, pixY, pixel, angle, row1, gridAt, corner, pix4, propRow, mapRow, inFirst, inSecond, Matrix.cons_val, forall_const, imp_self]
    clear hfit'
    ihave Hs' := (slot_split c (Ring.sl 2 t.val) _) $$ Hs
    icases Hs' with ⟨HtA, HtB⟩
    ihave Hp' := (piece_split c (Ring.bk 7 t.val) _) $$ Hp
    icases Hp' with ⟨HpA, HpB⟩
    sl_exec (disch := first | sl_exact hc0 | sl_exact hc1)
    sl_step
    sl_unfold_run_names
    ihave HgA := (Entails.of_eq (partA_land c (Ring.sl 2 t.val) (Ring.bk 7 t.val) G e1 hfit fa)) $$ HpA
    ihave HgB := (Entails.of_eq (partB_land c (Ring.sl 2 t.val) (Ring.bk 7 t.val) G e1 hfit fa)) $$ HpB
    ihave Hnow := (piece_join c (Ring.bk 7 t.val) G) $$ [HgA HgB]
    · isplitl [HgA]; · iexact HgA
      iexact HgB
    ihave Hprev := (piece_join c (Ring.bk 7 (t.val - 1)) G) $$ [HIA_dst HIB_dst]
    · isplitl [HIA_dst]; · iexact HIA_dst
      iexact HIB_dst
    ihave Hs1 := (slot_join c (Ring.sl 2 t.val) e1 e1) $$ [HtA HtB]
    · isplitl [HtA]; · iexact HtA
      iexact HtB
    ihave Hs2 := (slot_join c (Ring.sl 2 (t.val + 1)) ec ed) $$ [HIA_src HIB_src]
    · isplitl [HIA_src]; · iexact HIA_src
      iexact HIB_src
    iapply Hk
    isplitl [H0]; · iexists _; isplitr; · ipureintro; exact harg1.read_unread _
                    iexact H0
    isplitl [H1]; · iexists _; isplitr; · ipureintro; exact harg2.read_unread _
                    iexact H1
    isplitl [Hnow]; · iexact Hnow
    isplitl [Hback]; · iexact Hback
    isplitl [Hprev]; · iexact Hprev
    isplitl [HFA]; · iexact HFA
    isplitl [HFB]; · iexact HFB
    isplitl [Hs1]; · iexact Hs1
    isplitl [HIA]; · iexact HIA
    isplitl [HIB]; · iexact HIB
    isplitl [Hs2]; · iexact Hs2
    iexists _; iexact HW

end Cert.KernelIdeal.Roi

end
-- ==== Proof.KernelIdeal.Blocks.lean ====
module

public import proofs.«01_k».proof.Proof.KernelIdeal.Run
public import Idealize.ShloMosaic.Lib.Pipeline.FrameBody

@[expose] public section

set_option maxRecDepth 16384

/-! # What the kernel leaves in its result, as a function of the two blocks it is handed -/

noncomputable section

namespace Cert.KernelIdeal.Roi

open Idealize.ShloMosaic Idealize.ShloMosaic.TcCoe
open Cert.KernelIdeal Cert.KernelIdeal.Gen

variable {F : FTy → Type} [FloatOps F] [Named F]

/-- The five rows of the proposal block: the two corners' coordinates and the angle, a lane per box. -/
def propOf (x : Vec F S5x1000 .f32) : Fin 5 → Vec F S1x1000 .f32 := ![
  View.ld x (Rect.unit (s := S5x1000) ![0, 0] S1x1000.size inb_S5x1000_S1x1000_0_0),
  View.ld x (Rect.unit (s := S5x1000) ![1, 0] S1x1000.size inb_S5x1000_S1x1000_1_0),
  View.ld x (Rect.unit (s := S5x1000) ![2, 0] S1x1000.size inb_S5x1000_S1x1000_2_0),
  View.ld x (Rect.unit (s := S5x1000) ![3, 0] S1x1000.size inb_S5x1000_S1x1000_3_0),
  View.ld x (Rect.unit (s := S5x1000) ![4, 0] S1x1000.size inb_S5x1000_S1x1000_4_0)]

/-- The four pixel rows of each map's corner, four pixels of 384 channels each. -/
def mapOf (x : Vec F S2x4x8x384 .f32) : Fin 2 → Fin 4 → Vec F S1x1x4x384 .f32 := ![![
  View.ld x (Rect.unit (s := S2x4x8x384) ![0, 0, 0, 0] S1x1x4x384.size inb_S2x4x8x384_S1x1x4x384_0_0_0_0),
  View.ld x (Rect.unit (s := S2x4x8x384) ![0, 1, 0, 0] S1x1x4x384.size inb_S2x4x8x384_S1x1x4x384_0_1_0_0),
  View.ld x (Rect.unit (s := S2x4x8x384) ![0, 2, 0, 0] S1x1x4x384.size inb_S2x4x8x384_S1x1x4x384_0_2_0_0),
  View.ld x (Rect.unit (s := S2x4x8x384) ![0, 3, 0, 0] S1x1x4x384.size inb_S2x4x8x384_S1x1x4x384_0_3_0_0)], ![
  View.ld x (Rect.unit (s := S2x4x8x384) ![1, 0, 0, 0] S1x1x4x384.size inb_S2x4x8x384_S1x1x4x384_1_0_0_0),
  View.ld x (Rect.unit (s := S2x4x8x384) ![1, 1, 0, 0] S1x1x4x384.size inb_S2x4x8x384_S1x1x4x384_1_1_0_0),
  View.ld x (Rect.unit (s := S2x4x8x384) ![1, 2, 0, 0] S1x1x4x384.size inb_S2x4x8x384_S1x1x4x384_1_2_0_0),
  View.ld x (Rect.unit (s := S2x4x8x384) ![1, 3, 0, 0] S1x1x4x384.size inb_S2x4x8x384_S1x1x4x384_1_3_0_0)]]

omit [FloatOps F] [Named F] in
/-- What the body loads from a whole buffer holding `x` are the rows of `x`: the proposals, -/
theorem propRow_unread (arg1 : Memref sig .tc .vmem S5x1000 .f32) (h : arg1.IsWhole) (x : Vec F S5x1000 .f32) :
    propRow arg1 (h.unread x) = propOf x := by
  unfold propRow propOf
  simp only [View.readAt_eq_ld, Memref.IsWhole.read_unread]

omit [FloatOps F] [Named F] in
/-- and the maps. -/
theorem mapRow_unread (arg2 : Memref sig .tc .vmem S2x4x8x384 .f32) (h : arg2.IsWhole) (x : Vec F S2x4x8x384 .f32) :
    mapRow arg2 (h.unread x) = mapOf x := by
  unfold mapRow mapOf
  simp only [View.readAt_eq_ld, Memref.IsWhole.read_unread]

variable (m : (ℓ : Loc nD τ sig) → Buf (Elt F) ℓ)

/-- The grid point that writes position `i`: seven positions a point. -/
def stepOf (i : S49x1000x384.Idx) : Fin cfg0.N := ⟨(i 0).val / 7, by
  have h : (i 0).val < 49 := (i 0).isLt
  show _ < grid0.N; rw [N_0]; omega⟩

/-- The result: position `p`, box `n`, channel `k` holds the value sampled at column `p % 7`, row `p / 7` of the grid. -/
def pooled (c : Dev nD) : S49x1000x384.Idx → Elt F .f32 := fun i =>
  point (BitVec.ofNat 32 ((i 0).val % 7)) (BitVec.ofNat 32 ((i 0).val / 7)) (propOf (iblk m c 0 (stepOf i))) (mapOf (iblk m c 1 (stepOf i)))
    (oix (i 1) (i 2))

/-- Read at row `q` of step `t`'s piece it is the sample at column `q`, row `t`, of the step's blocks. -/
theorem pooled_rix (c : Dev nD) (t : Fin cfg0.N) (q : Fin 7) (n : Fin 1000) (k : Fin 384) :
    pooled m c (rix (Ring.bk 7 t.val) q n k)
      = point (BitVec.ofNat 32 q.val) (BitVec.ofNat 32 t.val) (propOf (iblk m c 0 t)) (mapOf (iblk m c 1 t)) (oix n k) := by
  have ht : t.val < 7 := lt_of_lt_of_eq t.isLt (show cfg0.N = 7 from N_0)
  have hb : (Ring.bk 7 t.val).val = t.val := Nat.mod_eq_of_lt ht
  have h0 : ((rix (Ring.bk 7 t.val) q n k) 0).val = 7 * t.val + q.val := by
    show 7 * (Ring.bk 7 t.val).val + q.val = _; rw [hb]
  have hq := q.isLt
  have hm : (7 * t.val + q.val) % 7 = q.val := by omega
  have hd : (7 * t.val + q.val) / 7 = t.val := by omega
  have hs : stepOf (rix (Ring.bk 7 t.val) q n k) = t := Fin.ext (by show ((rix (Ring.bk 7 t.val) q n k) 0).val / 7 = _; rw [h0, hd])
  unfold pooled
  rw [hs, h0, hm, hd]; rfl

end Cert.KernelIdeal.Roi

end
-- ==== Proof.KernelIdeal.Launch.lean ====
module

public import proofs.«01_k».proof.Proof.KernelIdeal.Blocks
public import proofs.«01_k».proof.Proof.Gen.KernelIdeal.Frame
public import proofs.«01_k».proof.Proof.Gen.KernelIdeal.Points
public import Idealize.ShloMosaic.Lib.Pipeline.FrameSuffixV
public import Idealize.ShloMosaic.Lib.Claim

@[expose] public section

set_option maxRecDepth 16384

/-! # The launch: seven steps behind a two-slot ring, and the result whole at `pooled` -/

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

/-! ## The ring's roles -/

section Roles
variable (c : Dev nD)

/-- A free slot: its two cells at zero and its rows at anything; -/
abbrev freeSlot (g : Fin 2) : sProp 𝕄 := iprop(zeroA (F := F) c g ∗ zeroB (F := F) c g ∗ ∃ e, slotP c g e)
/-- a slot whose two copies carry step `u`'s rows of `G`; -/
abbrev busySlot (G : S49x1000x384.Idx → Elt F .f32) (g : Fin 2) (u : Fin 7) : sProp 𝕄 := iprop((∃ e, flightA c g u G e) ∗ (∃ e, flightB c g u G e))
/-- a piece not written yet; -/
abbrev unwritten (u : Fin 7) : sProp 𝕄 := iprop(∃ f, pieceP (F := F) c u f)
/-- a piece written. -/
abbrev written (G : S49x1000x384.Idx → Elt F .f32) (u : Fin 7) : sProp 𝕄 := pieceP c u G
/-- The ring before step `k`. -/
def ringAt (G : S49x1000x384.Idx → Elt F .f32) (k : ℕ) : sProp 𝕄 := Ring.AtBΦ 2 (freeSlot c) (busySlot c G) (unwritten c) (written c G) k

end Roles

/-! ## Slots and pieces tile the scratch and the result -/

theorem slotBox_disjoint (g g' : Fin 2) (h : g ≠ g') : Disjoint (slotBox g) (slotBox g') :=
  Ring.boxes_disjoint (s := S2x7x1000x384) S1x7x1000x384.size (fun g : Fin 2 => ![g.val, 0, 0, 0]) slot_in (fun g : Fin 2 => (![g.val, 0, 0, 0] : Fin 4 → ℕ))
    (fun i a => by fin_cases a <;> simp) (fun v => Fin.ofNat 2 (v 0)) (by decide +kernel) g g' h

theorem pieceBox_disjoint (u u' : Fin 7) (h : u ≠ u') : Disjoint (pieceBox u) (pieceBox u') :=
  Ring.boxes_disjoint (s := S49x1000x384) S7x1000x384.size (fun u : Fin 7 => ![7 * u.val, 0, 0]) piece_in (fun u : Fin 7 => (![u.val, 0, 0] : Fin 3 → ℕ))
    (fun i a => by fin_cases a <;> simp <;> omega) (fun v => Fin.ofNat 7 (v 0)) (by decide +kernel) u u' h

/-- Every position of the result is in some piece. -/
theorem pieces_cover : Finset.univ.biUnion pieceBox = Finset.univ := by
  ext i
  simp only [Finset.mem_biUnion, Finset.mem_univ, true_and, iff_true]
  have h0 : (i 0).val < 49 := (i 0).isLt
  refine ⟨⟨(i 0).val / 7, by omega⟩, Rect.mem_set_unit.2 fun a => ?_⟩
  have ha := (i a).isLt
  fin_cases a
  · constructor
    · show 7 * ((i 0).val / 7) ≤ (i 0).val; omega
    · show (i 0).val < 7 * ((i 0).val / 7) + 7; omega
  · exact ⟨Nat.zero_le _, by simpa using ha⟩
  · exact ⟨Nat.zero_le _, by simpa using ha⟩

section InOut
variable (c : Dev nD)

/-- What the scratch holds outside every slot (nothing, as it happens): carried beside the ring. -/
abbrev spareScratch : sProp 𝕄 := iprop(∃ f : Buf (Elt F) ((c : Thread nD τ).loc cc0_scratch0), ((c : Thread nD τ).loc cc0_scratch0) ↦[Finset.univ \ Finset.univ.biUnion slotBox]{fullShare} f)

theorem slots_in : iprop(∃ f : Buf (Elt F) ((c : Thread nD τ).loc cc0_scratch0), ((c : Thread nD τ).loc cc0_scratch0) ↦{fullShare} f) ⊢ (iprop(bigSep Finset.univ (fun g : Fin 2 => iprop(∃ e, slotP (F := F) c g e)) ∗ spareScratch c) : sProp 𝕄) :=
  Ring.pieces_split_spare (U := Pipeline.UD sig nD τ) (ℓ := (c : Thread nD τ).loc cc0_scratch0) (q := fullShare) slotBox slotBox_disjoint
    (fun g e => slotP c g e) (fun g e => slotP_eq c g e)
theorem slots_out : (iprop(bigSep Finset.univ (fun g : Fin 2 => iprop(∃ e, slotP (F := F) c g e)) ∗ spareScratch c) : sProp 𝕄) ⊢ iprop(∃ f : Buf (Elt F) ((c : Thread nD τ).loc cc0_scratch0), ((c : Thread nD τ).loc cc0_scratch0) ↦{fullShare} f) :=
  Ring.pieces_join_spare (U := Pipeline.UD sig nD τ) (ℓ := (c : Thread nD τ).loc cc0_scratch0) (q := fullShare) slotBox slotBox_disjoint
    (fun g e => slotP c g e) (fun g e => slotP_eq c g e)

/-- The result whole at `f` is its seven pieces at `f`. -/
theorem pieces_eq (f : S49x1000x384.Idx → Elt F .f32) : (((c : Thread nD τ).loc main_v3) ↦{fullShare} f : sProp 𝕄) = bigSep Finset.univ (fun u : Fin 7 => pieceP c u f) := by
  have h := pointsTo_biUnion (nD := nD) (τ := τ) (sig := sig) (Ix := Unit) (Val := Elt F) (Name := ℕ) (U := Pipeline.UD sig nD τ) (Lvl := ℕ) (ℓ := (c : Thread nD τ).loc main_v3) (q := fullShare) (f := f) Finset.univ pieceBox (fun u _ u' _ h => pieceBox_disjoint u u' h)
  rw [pieces_cover] at h
  exact h.trans (BI.bigSep_congr fun u _ => (pieceP_eq c u f).symm)

theorem piece_some (u : Fin 7) (f : S49x1000x384.Idx → Elt F .f32) : pieceP (F := F) c u f ⊢ iprop(∃ f, pieceP (F := F) c u f) := by
  iintro H; iexists _; iexact H

theorem pieces_in (f : S49x1000x384.Idx → Elt F .f32) : (((c : Thread nD τ).loc main_v3) ↦{fullShare} f : sProp 𝕄) ⊢ bigSep Finset.univ (unwritten (F := F) c) := by
  rw [pieces_eq]
  exact BI.bigSep_mono fun u _ => piece_some c u f

/-- The four cells at zero and the slots are the two slots free. -/
theorem frees_eq : (bigSep Finset.univ (freeSlot (F := F) c) : sProp 𝕄)
    = iprop((semVal ((c : Thread nD τ), SemLoc.dma 2) 0 ∗ semVal ((c : Thread nD τ), SemLoc.dma 3) 0 ∗ (∃ e, slotP (F := F) c 0 e))
      ∗ (semVal ((c : Thread nD τ), SemLoc.dma 4) 0 ∗ semVal ((c : Thread nD τ), SemLoc.dma 5) 0 ∗ (∃ e, slotP (F := F) c 1 e))) := by
  rw [BI.bigSep_eq_bigSepL_of_eq [0, 1] (by decide) (by decide)]
  simp only [BI.bigSepL_cons_cons, BI.bigSepL_singleton, freeSlot, zeroA, zeroB, semA_0, semB_0, semA_1, semB_1]; rfl
theorem slots_eq : (bigSep Finset.univ (fun g : Fin 2 => iprop(∃ e, slotP (F := F) c g e)) : sProp 𝕄) = iprop((∃ e, slotP (F := F) c 0 e) ∗ (∃ e, slotP (F := F) c 1 e)) := by
  rw [BI.bigSep_eq_bigSepL_of_eq [0, 1] (by decide) (by decide)]
  simp only [BI.bigSepL_cons_cons, BI.bigSepL_singleton]; rfl

/-- The cells as the launch lists them. -/
abbrev cells : sProp 𝕄 := iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)

/-- Into the ring: the scratch, the cells at zero and the result at anything are the ring before step 0. -/
theorem ring_in (G f : S49x1000x384.Idx → Elt F .f32) :
    iprop((∃ d : Buf (Elt F) ((c : Thread nD τ).loc cc0_scratch0), ((c : Thread nD τ).loc cc0_scratch0) ↦{fullShare} d) ∗ cells (F := F) c ∗ ((c : Thread nD τ).loc main_v3) ↦{fullShare} f)
      ⊢ iprop(ringAt c G 0 ∗ spareScratch (F := F) c) := by
  unfold ringAt; rw [Ring.AtBΦ_lt _ _ _ _ _ 0 (by decide), Ring.AtB_zero]; unfold Ring.AtB₀
  rw [frees_eq]
  iintro ⟨HS, ⟨Hq2, Hq3, Hq4, Hq5⟩, HD⟩
  ihave HS' := (slots_in (F := F) c) $$ HS
  icases HS' with ⟨HT, HTsp⟩
  ihave HT' := (Entails.of_eq (slots_eq (F := F) c)) $$ HT
  icases HT' with ⟨HT0, HT1⟩
  ihave HD' := (pieces_in (F := F) c f) $$ HD
  isplitr [HTsp]
  · isplitl [HD']; · iexact HD'
    isplitl [Hq2 Hq3 HT0]
    · isplitl [Hq2]; · iexact Hq2
      isplitl [Hq3]; · iexact Hq3
      iexact HT0
    isplitl [Hq4]; · iexact Hq4
    isplitl [Hq5]; · iexact Hq5
    iexact HT1
  iexact HTsp

/-- Out of the ring, after the last step: the same with the result whole at `G`. -/
theorem ring_out (G : S49x1000x384.Idx → Elt F .f32) :
    iprop(ringAt c G 7 ∗ spareScratch (F := F) c)
      ⊢ iprop((∃ d : Buf (Elt F) ((c : Thread nD τ).loc cc0_scratch0), ((c : Thread nD τ).loc cc0_scratch0) ↦{fullShare} d) ∗ cells (F := F) c ∗ ((c : Thread nD τ).loc main_v3) ↦{fullShare} G) := by
  unfold ringAt; rw [Ring.AtBΦ_ge _ _ _ _ _ 7 (by decide)]; unfold Ring.AtBEnd
  rw [frees_eq, pieces_eq]
  iintro ⟨⟨HP, ⟨Hq2, Hq3, HT0⟩, ⟨Hq4, Hq5, HT1⟩⟩, HTsp⟩
  isplitl [HT0 HT1 HTsp]
  · iapply (slots_out (F := F) c)
    isplitl [HT0 HT1]
    · iapply (Entails.of_eq (slots_eq (F := F) c).symm)
      isplitl [HT0]; · iexact HT0
      iexact HT1
    iexact HTsp
  isplitl [Hq2 Hq3 Hq4 Hq5]
  · isplitl [Hq2]; · iexact Hq2
    isplitl [Hq3]; · iexact Hq3
    isplitl [Hq4]; · iexact Hq4
    iexact Hq5
  iexact HP

end InOut

/-! ## The pipeline's proof data -/

variable (m : (ℓ : Loc nD τ sig) → Buf (Elt F) ℓ) (ρ : Dev nD → PrngReg)

/-- The invariant before step `k`: the ring there, at the values `pooled` names, and the scratch's spare elements. -/
def PhiAt (c : Dev nD) (k : ℕ) : sProp 𝕄 := iprop(ringAt c (pooled m c) k ∗ spareScratch (F := F) c)

/-- The two inputs' blocks are left as fetched; nothing is owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := PhiAt m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiAt m c t.val := by
  dsimp only [dats]; simp only [Fin.val_castSucc]
theorem Phi_succ (c : Dev nD) (t : Fin cfg0.N) : (dats m 0 c).Φ t.succ = PhiAt m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
/-- Each input's staging buffer holds its block at every step, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body at any step -/

def bodyPre (c : Dev nD) (t : Fin cfg0.N) : sProp 𝕄 :=
  iprop((dats m 0 c).Φ t.castSucc ∗ (dats m 0 c).owesAt () t.castSucc
    ∗ (∃ d, owns (c : Thread nD τ) (propsRef t) fullShare ((dats m 0 c).before 0 t d))
    ∗ (∃ d, owns (c : Thread nD τ) (mapRef t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (propsRef t) fullShare ((dats m 0 c).after 0 t)
    ∗ owns (c : Thread nD τ) (mapRef t) fullShare ((dats m 0 c).after 1 t))

instance : NeZero grid0.N := ⟨by rw [N_0]; decide⟩

/-- The values the runs ask for are those `pooled` names. -/
theorem pooled_run (c : Dev nD) (t : Fin cfg0.N) (arg1 : Memref sig .tc .vmem S5x1000 .f32) (harg1 : arg1.IsWhole) (arg2 : Memref sig .tc .vmem S2x4x8x384 .f32) (harg2 : arg2.IsWhole) :
    ∀ q n k, pooled m c (rix (Ring.bk 7 t.val) q n k)
      = point (BitVec.ofNat 32 q.val) (BitVec.ofNat 32 t.val) (propRow arg1 (harg1.unread (iblk m c 0 t))) (mapRow arg2 (harg2.unread (iblk m c 1 t))) (oix n k) := by
  intro q n k
  rw [pooled_rix, propRow_unread, mapRow_unread]

set_option maxHeartbeats 1200000 in
/-- The body at any step: the ring's roles are handed to the run of that step and taken back one step on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1]
  rw [Phi_castSucc m c t, Phi_succ m c t]
  unfold Dat.owesAt Pipeline.owesWithin
  rw [show (dats m 0 c).owed t.castSucc = 0 from rfl, show (dats m 0 c).owed t.succ = 0 from rfl]
  unfold PhiAt ringAt
  have hN : t.val < 7 := lt_of_lt_of_eq t.isLt (show cfg0.N = 7 from N_0)
  by_cases h0 : 2 ≤ t.val
  · have hc0 := (cond1_iff t).mpr h0
    by_cases h1 : t.val = 6
    · have hc1 := (cond2_iff t).mpr h1
      rw [Ring.AtBΦ_lt _ _ _ _ _ t.val (by omega), Ring.AtB22_here_last _ _ _ _ t.val h0 (by omega), Ring.AtBΦ_end _ _ _ _ _ (t.val + 1) (by omega), Ring.AtB22_drained _ _ t.val h0 (by omega)]
      iintro ⟨⟨⟨Hp, HB, ⟨HFA, HFB⟩, ⟨HIA, HIB⟩⟩, HTsp⟩, ⟨%W, -, HW⟩, ⟨%d0, H0⟩, ⟨%d1, H1⟩⟩
      iapply ((run_last c t _ _ _ _ hc0 hc1 (iblk m c 0 t) (iblk m c 1 t) (pooled m c) (pooled_run m c t _ _ _ _)) W _)
      isplitl [H0]; · iexact H0
      isplitl [H1]; · iexact H1
      isplitl [Hp]; · iexact Hp
      isplitl [HFA]; · iexact HFA
      isplitl [HFB]; · iexact HFB
      isplitl [HIA]; · iexact HIA
      isplitl [HIB]; · iexact HIB
      isplitl [HW]; · iexact HW
      iintro ⟨H0, H1, Hn, Hl, Hm, Hqa, Hqb, Hs, Hra, Hrb, Hs', ⟨%W', HW'⟩⟩
      isplitl [HB HTsp Hn Hl Hm Hqa Hqb Hs Hra Hrb Hs']
      · isplitr [HTsp]
        · isplitl [Hn Hl Hm HB]
          · isplitl [Hn]; · iexact Hn
            isplitl [Hl]; · iexact Hl
            isplitl [Hm]; · iexact Hm
            iexact HB
          isplitl [Hqa Hqb Hs]
          · isplitl [Hqa]; · iexact Hqa
            isplitl [Hqb]; · iexact Hqb
            iexact Hs
          isplitl [Hra]; · iexact Hra
          isplitl [Hrb]; · iexact Hrb
          iexact Hs'
        iexact HTsp
      isplitl [HW']
      · iexists W'; isplitr; · ipureintro; exact fun _ _ => Or.inl trivial
        iexact HW'
      isplitl [H0]; · iexact H0
      iexact H1
    · have hc1 : ¬k0_cond2 (grid0.coords t) = 1#1 := fun h => h1 ((cond2_iff t).mp h)
      rw [Ring.AtBΦ_lt _ _ _ _ _ t.val (by omega), Ring.AtB22_here _ _ _ _ t.val h0 (by omega), Ring.AtBΦ_lt _ _ _ _ _ (t.val + 1) (by omega), Ring.AtB22_next _ _ _ _ t.val h0 (by omega)]
      iintro ⟨⟨⟨⟨Hp, HA⟩, HB, ⟨HFA, HFB⟩, Hcar⟩, HTsp⟩, ⟨%W, -, HW⟩, ⟨%d0, H0⟩, ⟨%d1, H1⟩⟩
      iapply ((run_steady c t _ _ _ _ hc0 hc1 (iblk m c 0 t) (iblk m c 1 t) (pooled m c) (pooled_run m c t _ _ _ _)) W _)
      isplitl [H0]; · iexact H0
      isplitl [H1]; · iexact H1
      isplitl [Hp]; · iexact Hp
      isplitl [HFA]; · iexact HFA
      isplitl [HFB]; · iexact HFB
      isplitl [HW]; · iexact HW
      iintro ⟨H0, H1, Hl, HnA, HnB, ⟨%W', HW'⟩⟩
      isplitl [HA HB Hcar HTsp Hl HnA HnB]
      · isplitr [HTsp]
        · isplitl [HA]; · iexact HA
          isplitl [Hl HB]
          · isplitl [Hl]; · iexact Hl
            iexact HB
          isplitl [Hcar]; · iexact Hcar
          isplitl [HnA]; · iexact HnA
          iexact HnB
        iexact HTsp
      isplitl [HW']
      · iexists W'; isplitr; · ipureintro; exact fun _ _ => Or.inl trivial
        iexact HW'
      isplitl [H0]; · iexact H0
      iexact H1
  · have hc0 : ¬k0_cond1 (grid0.coords t) = 1#1 := fun h => h0 ((cond1_iff t).mp h)
    have hc1 : ¬k0_cond2 (grid0.coords t) = 1#1 := fun h => h0 (by have := (cond2_iff t).mp h; omega)
    rcases (show t.val = 0 ∨ t.val = 1 by omega) with hW0 | hW0
    · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
      iintro ⟨⟨⟨⟨Hp, HA⟩, ⟨Hqa, Hqb, Ht⟩, Hcar⟩, HTsp⟩, ⟨%W, -, HW⟩, ⟨%d0, H0⟩, ⟨%d1, H1⟩⟩
      iapply ((run_boot c t _ _ _ _ hc0 hc1 (iblk m c 0 t) (iblk m c 1 t) (pooled m c) (pooled_run m c t _ _ _ _)) W _)
      isplitl [H0]; · iexact H0
      isplitl [H1]; · iexact H1
      isplitl [Hp]; · iexact Hp
      isplitl [Hqa]; · iexact Hqa
      isplitl [Hqb]; · iexact Hqb
      isplitl [Ht]; · iexact Ht
      isplitl [HW]; · iexact HW
      iintro ⟨H0, H1, HnA, HnB, ⟨%W', HW'⟩⟩
      isplitl [HA Hcar HTsp HnA HnB]
      · isplitr [HTsp]
        · isplitl [HA]; · iexact HA
          isplitl [Hcar]; · iexact Hcar
          isplitl [HnA]; · iexact HnA
          iexact HnB
        iexact HTsp
      isplitl [HW']
      · iexists W'; isplitr; · ipureintro; exact fun _ _ => Or.inl trivial
        iexact HW'
      isplitl [H0]; · iexact H0
      iexact H1
    · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
      iintro ⟨⟨⟨⟨Hp, HA⟩, ⟨Hqa, Hqb, Ht⟩, Hcar⟩, HTsp⟩, ⟨%W, -, HW⟩, ⟨%d0, H0⟩, ⟨%d1, H1⟩⟩
      iapply ((run_boot c t _ _ _ _ hc0 hc1 (iblk m c 0 t) (iblk m c 1 t) (pooled m c) (pooled_run m c t _ _ _ _)) W _)
      isplitl [H0]; · iexact H0
      isplitl [H1]; · iexact H1
      isplitl [Hp]; · iexact Hp
      isplitl [Hqa]; · iexact Hqa
      isplitl [Hqb]; · iexact Hqb
      isplitl [Ht]; · iexact Ht
      isplitl [HW]; · iexact HW
      iintro ⟨H0, H1, HnA, HnB, ⟨%W', HW'⟩⟩
      isplitl [HA Hcar HTsp HnA HnB]
      · isplitr [HTsp]
        · isplitl [HA]; · iexact HA
          isplitl [Hcar]; · iexact Hcar
          isplitl [HnA]; · iexact HnA
          iexact HnB
        iexact HTsp
      isplitl [HW']
      · iexists W'; isplitr; · ipureintro; exact fun _ _ => Or.inl trivial
        iexact HW'
      isplitl [H0]; · iexact H0
      iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The body's own four cells, the operand it writes by its own copies, and none it only reads. -/
abbrev osem : Fin 4 → SemLoc sig := fun j => (![SemLoc.dma 2, SemLoc.dma 3, SemLoc.dma 4, SemLoc.dma 5] : Fin 4 → SemLoc sig) j
theorem osemFacts : Pipeline.OwnSemFacts spec0 osem := by decide
def readRefs : Finset (Ref sig .tc) := {}
def wroteRefs : Finset (Ref sig .tc) := {main_v3}
theorem readRefs_sub : readRefs ⊆ Pipeline.restRefs sig spec0 := by decide
theorem wroteRefs_sub : wroteRefs ⊆ Pipeline.restRefs sig spec0 \ readRefs := by decide

theorem ownSems_eq (c : Dev nD) :
    (Pipeline.ownSems0 (Ix := Unit) (Name := ℕ) (U := Pipeline.UD sig nD τ) (Lvl := ℕ) (Val := Elt F) (τ := τ) osem c : sProp 𝕄) = cells (F := F) c := by
  rw [Pipeline.ownSems0_eq_of_list c osem [0, 1, 2, 3] (by decide) (by decide)]; rfl

/-- What every buffer holds after the region: the result at `pooled`, the others as before it. -/
def Gat (c : Dev nD) (b : Ref sig .tc) : Buf (Elt F) ((c : Thread nD τ).loc b) :=
  Function.update (fun b => V m c b) main_v3 (pooled m c) b

theorem Gat_self (c : Dev nD) : Gat m c main_v3 = pooled m c := Function.update_self ..

/-- What the launch hands the region, conjunct by conjunct, for any contents of the result. -/
theorem handed_eq (G : (c : Dev nD) → (b : Ref sig .tc) → Buf (Elt F) ((c : Thread nD τ).loc b)) (c : Dev nD) :
    (Pipeline.ΦDRV osem spec0 readRefs wroteRefs (V m) G c : sProp 𝕄)
      = iprop((∃ d : Buf (Elt F) ((c : Thread nD τ).loc cc0_scratch0), ((c : Thread nD τ).loc cc0_scratch0) ↦{fullShare} d) ∗ cells (F := F) c ∗ iprop(emp) ∗ ((c : Thread nD τ).loc main_v3) ↦{fullShare} G c main_v3) := by
  unfold Pipeline.ΦDRV
  rw [scopedRest0_eq, ownSems_eq, BI.bigSep_eq_bigSepL_of_eq (S := readRefs) [] (by decide) (by decide), BI.bigSep_eq_bigSepL_of_eq (S := wroteRefs) [main_v3] (by decide) (by decide)]
  rfl

theorem hin (c : Dev nD) : Pipeline.ΦDRV osem spec0 readRefs wroteRefs (V m) (V m) c ⊢ (dats m 0 c).Φ 0 := by
  rw [handed_eq, show (dats m 0 c).Φ 0 = PhiAt m c 0 from rfl]
  unfold PhiAt
  iintro ⟨HS, HQ, -, HD⟩
  iapply (ring_in (F := F) c (pooled m c) (V m c main_v3))
  isplitl [HS]; · iexact HS
  isplitl [HQ]; · iexact HQ
  iexact HD

theorem hout (c : Dev nD) : (dats m 0 c).Φ (Fin.last cfg0.N) ⊢ Pipeline.ΦDRV osem spec0 readRefs wroteRefs (V m) (Gat m) c := by
  rw [handed_eq, show (dats m 0 c).Φ (Fin.last cfg0.N) = PhiAt m c grid0.N from rfl, Gat_self]
  unfold PhiAt
  rw [show grid0.N = 7 by rw [N_0]]
  iintro H
  ihave HX := (ring_out (F := F) c (pooled m c)) $$ H
  icases HX with ⟨HS, HQ, HD⟩
  isplitl [HS]; · iexact HS
  isplitl [HQ]; · iexact HQ
  isplitr; · iempintro
  iexact HD

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
set_option maxHeartbeats 1600000 in
/-- The launch: from any memory with zero counters the program ends, its counters at zero, its arrays as the library computes
    them, and every other buffer as the later host lines leave it from the region's end, where the result is at `pooled`. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after ([hostOps1] : List (List (HloOp τ sig (Elt F)))).flatten (Pipeline.withArrays spec0 c (Pipeline.withR (V0 m c) wroteRefs c (Gat m c)) fun w => (dats m 0 c).arrAt w cfg0.N) (Proc.devRef .tc b))
      ∧ r.2.sem = fun _ => 0) :=
  Pipeline.θ_run_frame_dmaR_aroundV (Q' := _) (hQ' := fun _ h => h) cfgs (dats m) (0 : Fin 1) launch0 osem defs₀ Variants.none osemFacts readRefs wroteRefs readRefs_sub wroteRefs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gat m)
    (hmain := hmainD m Variants.none) (hA := A_eq m) (hin := hin m) (hout := hout m)

end Cert.KernelIdeal.Roi

end
-- ==== Proof.KernelIdeal.Result.lean ====
module

public import proofs.«01_k».proof.Proof.KernelIdeal.Launch

@[expose] public section

set_option maxRecDepth 16384

/-! # What the program leaves: its result, its arguments, its counters -/

noncomputable section

namespace Cert.KernelIdeal.Roi

open Idealize.ShloMosaic Idealize.ShloMosaic.TcCoe Idealize.ShloMosaic.Tactic
open Idealize.SL Idealize.SL.Sem
open Cert.KernelIdeal Cert.KernelIdeal.Gen

variable {F : FTy → Type} [FloatOps F] [Named F]

section End
variable (m : (ℓ : Loc nD τ sig) → Buf (Elt F) ℓ) (ρ : Dev nD → PrngReg)

/-- The buffers of a device after the last host line. -/
abbrev endAt (c : Dev nD) : Valuation τ sig (Elt F) :=
  StableHlo.after ([hostOps1] : List (List (HloOp τ sig (Elt F)))).flatten
    (Pipeline.withArrays spec0 c (Pipeline.withR (V0 m c) wroteRefs c (Gat m c)) fun w => (dats m 0 c).arrAt w cfg0.N)

/-- No line after the launch, and not the launch itself, writes the first argument. -/
theorem end_arg0 (c : Dev nD) : endAt m c (Proc.devRef .tc main_arg0) = m ((c.tc : Thread nD τ).loc main_arg0) := by
  refine (StableHlo.after_of_forall_not_mem (b := Proc.devRef .tc main_arg0) _ _ (List.forall_iff_forall_mem.mp (by
    simp only [hostOps1, List.flatten_cons, List.flatten_nil, List.append_nil, List.cons_append, List.nil_append, List.Forall,
      StableHlo.nullary_writes, StableHlo.unary_writes, StableHlo.reshape_writes, Finset.mem_singleton]
    repeat' apply And.intro
    all_goals exact StableHlo.devRef_ne_of_ne (by decide)))).trans ?_
  refine (Pipeline.withArrays_of_ne _ c _ _ main_arg0 (by exact (by decide : ∀ w, Pipeline.arrRef spec0 w ≠ main_arg0))).trans ?_
  exact (Pipeline.withR_of_not_mem _ _ c _ main_arg0 (by decide)).trans (V_main_arg0 m c)

/-- Nor the second. -/
theorem end_arg1 (c : Dev nD) : endAt m c (Proc.devRef .tc main_arg1) = m ((c.tc : Thread nD τ).loc main_arg1) := by
  refine (StableHlo.after_of_forall_not_mem (b := Proc.devRef .tc main_arg1) _ _ (List.forall_iff_forall_mem.mp (by
    simp only [hostOps1, List.flatten_cons, List.flatten_nil, List.append_nil, List.cons_append, List.nil_append, List.Forall,
      StableHlo.nullary_writes, StableHlo.unary_writes, StableHlo.reshape_writes, Finset.mem_singleton]
    repeat' apply And.intro
    all_goals exact StableHlo.devRef_ne_of_ne (by decide)))).trans ?_
  refine (Pipeline.withArrays_of_ne _ c _ _ main_arg1 (by exact (by decide : ∀ w, Pipeline.arrRef spec0 w ≠ main_arg1))).trans ?_
  exact (Pipeline.withR_of_not_mem _ _ c _ main_arg1 (by decide)).trans (V_main_arg1 m c)

/-- The last two host lines lay the launch's array out as the result. -/
theorem end_result (c : Dev nD) : endAt m c (Proc.devRef .tc main_v5)
    = shapeCast S1000x384x7x7 (transpose S1000x384x49 [1, 2, 0] (pooled m c) transposes_S49x1000x384_S1000x384x49_1_2_0)
        shapeCasts_S1000x384x49_S1000x384x7x7 := by
  have h3 : Pipeline.withArrays spec0 c (Pipeline.withR (V0 m c) wroteRefs c (Gat m c)) (fun w => (dats m 0 c).arrAt w cfg0.N)
      (Proc.devRef .tc main_v3) = pooled m c :=
    (Pipeline.withArrays_of_ne _ c _ _ main_v3 (by exact (by decide : ∀ w, Pipeline.arrRef spec0 w ≠ main_v3))).trans
      ((Pipeline.withR_of_mem _ _ c _ main_v3 (by decide)).trans (Gat_self m c))
  rw [endAt]
  generalize Pipeline.withArrays spec0 c (Pipeline.withR (V0 m c) wroteRefs c (Gat m c)) (fun w => (dats m 0 c).arrAt w cfg0.N) = W at h3 ⊢
  simp only [hostOps1, List.flatten_cons, List.flatten_nil, List.append_nil]
  after_results_simp
  rw [h3] <;> rfl

/-- From any memory with zero counters the program ends with the result at the pooled rows laid out, its arguments as they
    were and every counter at zero. -/
theorem ends : θ_run defs (onTc (τ := τ) (main (F := F))) ⟨m, fun _ => 0, ρ⟩ (fun r => (∀ c : Dev nD,
      r.2.mem ((c.tc : Thread nD τ).loc main_v5)
          = shapeCast S1000x384x7x7 (transpose S1000x384x49 [1, 2, 0] (pooled m c) transposes_S49x1000x384_S1000x384x49_1_2_0)
              shapeCasts_S1000x384x49_S1000x384x7x7
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨((h.1 c).2 main_v5 (Pipeline.mem_restRefs_of main_v5 (by decide) (by decide))).trans (end_result m c),
       ((h.1 c).2 main_arg0 (Pipeline.mem_restRefs_of main_arg0 (by decide) (by decide))).trans (end_arg0 m c),
       ((h.1 c).2 main_arg1 (Pipeline.mem_restRefs_of main_arg1 (by decide) (by decide))).trans (end_arg1 m c)⟩, h.2⟩)
    (run_main m ρ)

end End

end Cert.KernelIdeal.Roi

end
-- ==== Proof.Frames.lean ====
module

public import proofs.«01_k».proof.Defs
public import proofs.«01_k».proof.Proof.Kernel.Result
public import proofs.«01_k».proof.Proof.KernelIdeal.Result
public import proofs.«01_k».proof.Proof.Gen.ReferenceIdeal.Run
public import Idealize.ShloMosaic.Adequacy

@[expose] public section

/-! # The programs end, leave their arguments alone and put every counter back; the named constants -/

noncomputable section

namespace Cert.Proof

open Idealize.ShloMosaic Idealize.SL.Sem

/-- The kernel as it stands, floats their bits: it ends, its arguments unchanged, its counters at zero. -/
theorem frame_p : Cert.quiescent_Kernel := fun m g _ =>
  (θ_run Cert.Kernel.defs _ _).mono (fun _ h => ⟨fun c => (h.1 c).2, h.2⟩) (Cert.Kernel.Roi.ends (F := Bits) m g)

/-- The kernel over the extended reals likewise. -/
theorem frame_pi : Cert.quiescent_KernelIdeal := fun m g _ =>
  (θ_run Cert.KernelIdeal.defs _ _).mono (fun _ h => ⟨fun c => (h.1 c).2, h.2⟩) (Cert.KernelIdeal.Roi.ends (F := Ideal) m g)

/-- The reference over the extended reals; it has no counters at all. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's frame again, under the precondition it does not need. -/
theorem frame_pi_pre [Cert.Pre_unit_range.Facts] : Cert.quiescent_KernelIdeal_pre_unit_range := fun m g _ => frame_pi m g trivial

/-- The reference's likewise. -/
theorem frame_ri_pre [Cert.Pre_unit_range.Facts] : Cert.quiescent_ReferenceIdeal_pre_unit_range := fun m g _ => frame_ri m g trivial

/-- The two named constants: a seventh, and minus one degree in radians at the float32 π. -/
theorem preserves : Cert.preserves_Kernel_KernelIdeal :=
  ⟨IdealRules.named_const.statement Cert.KernelIdeal.κ "inv_seven" .f32 0x3E124925#32 ((1 / 7 : ℝ) : EReal) rfl,
   IdealRules.named_const.statement Cert.KernelIdeal.κ "neg_degree" .f32 0xBC8EFA35#32 ((-878453 / 50331648 : ℝ) : EReal) rfl⟩

end Cert.Proof

end
-- ==== Proof.Bilinear.lean ====
/- The mathematics of one pooled value, over the reals and the extended reals and naming no program: where a box's sampling
   point falls, that it falls by the map's corner, and that the sixteen hat weights of the corner's pixels are the four
   bilinear weights of the point's neighbours. -/
module

public import Mathlib.Data.EReal.Operations
public import Mathlib.Analysis.SpecialFunctions.Trigonometric.Basic
public import Mathlib.Tactic.IntervalCases
public import Mathlib.Tactic.Linarith
public import Mathlib.Tactic.Ring
public import Idealize.ShloMosaic.PureOps.Ideal
public import Idealize.ShloMosaic.Lib.Pointwise

@[expose] public section

noncomputable section

namespace Cert.Bilinear

open Idealize.ShloMosaic

/-- The normalized grid coordinate of pooled row or column `k` of seven. -/
def grid (k : ℕ) : ℝ := (2 * k + 1) / 7 - 1

/-- A pixel coordinate as both programs take it: the grid point scaled by the sides as `α` and `β`, turned by an angle of
    cosine `C` and sine `S`, moved to the normalized centre `z`, and read off the map's 64 pixels. -/
def turned (α β z : ℝ) (C S : EReal) : EReal := (((α : EReal) * C + (β : EReal) * S + (z : EReal) + 1) * ((64 : ℝ) : EReal) - 1) * ((1 / 2 : ℝ) : EReal)

/-- The pixel column sampled at pooled column `c` and row `r` by a box `w` by `h` centred at `cx` and turned by `a`, which
    may be infinite. -/
def pxX (cx w h : ℝ) (a : EReal) (c r : ℕ) : EReal :=
  turned (w / 64 * grid c) (-(h / 64 * grid r)) (cx / 32 - 1) (Ideal.cos a) (Ideal.sin a)

/-- The pixel row likewise. -/
def pxY (cy w h : ℝ) (a : EReal) (c r : ℕ) : EReal :=
  turned (h / 64 * grid r) (w / 64 * grid c) (cy / 32 - 1) (Ideal.cos a) (Ideal.sin a)

/-- A scaled and turned grid coordinate, by the order a program multiplies in. -/
theorem term_cos (w g : ℝ) (C : EReal) : (w : EReal) * (C * ((1 / 64 : ℝ) : EReal)) * (g : EReal) = ((w / 64 * g : ℝ) : EReal) * C := by
  rw [div_eq_mul_one_div w, EReal.coe_mul, EReal.coe_mul]
  ac_rfl

theorem term_sin (w g : ℝ) (S : EReal) : (w : EReal) * ((1 / 64 : ℝ) : EReal) * S * (g : EReal) = ((w / 64 * g : ℝ) : EReal) * S := by
  rw [div_eq_mul_one_div w, EReal.coe_mul, EReal.coe_mul]
  ac_rfl

theorem term_neg (h g : ℝ) (S : EReal) :
    (0 - (h : EReal) * ((1 / 64 : ℝ) : EReal)) * S * (g : EReal) = ((-(h / 64 * g) : ℝ) : EReal) * S := by
  rw [← EReal.coe_mul, ← EReal.coe_zero, ← EReal.coe_sub, show -(h / 64 * g) = (0 - h * (1 / 64)) * g by ring, EReal.coe_mul _ g]
  ac_rfl

/-- A coordinate no pixel has. -/
def Far (x : EReal) : Prop := x = ⊥ ∨ x = ⊤

/-- A real coordinate by the corner: its floor is one of four. -/
def Near (x : EReal) : Prop := ∃ t : ℝ, x = ((t : ℝ) : EReal) ∧ -2 ≤ ⌊t⌋ ∧ ⌊t⌋ ≤ 1

theorem grid_abs {k : ℕ} (hk : k < 7) : |grid k| ≤ 1 := by
  have : (k : ℝ) ≤ 6 := by exact_mod_cast Nat.lt_succ_iff.mp hk
  have : (0 : ℝ) ≤ k := Nat.cast_nonneg k
  rw [abs_le]; unfold grid; constructor <;> linarith

theorem floor_near {x : ℝ} (h : -2 ≤ x) (h' : x < 2) : -2 ≤ ⌊x⌋ ∧ ⌊x⌋ ≤ 1 :=
  ⟨Int.le_floor.mpr (by exact_mod_cast h), Int.lt_add_one_iff.mp (Int.floor_lt.mpr (by push_cast; linarith))⟩

/-- A real times an infinity is infinite, unless the real is zero. -/
theorem mul_inf (x : ℝ) {C : EReal} (h : Far C) : (x = 0 ∧ (x : EReal) * C = 0) ∨ Far ((x : EReal) * C) := by
  rcases lt_trichotomy x 0 with hx | hx | hx
  · right
    rcases h with rfl | rfl
    · exact .inr (EReal.coe_mul_bot_of_neg hx)
    · exact .inl (EReal.coe_mul_top_of_neg hx)
  · subst hx
    exact .inl ⟨rfl, by rw [EReal.coe_zero, zero_mul]⟩
  · right
    rcases h with rfl | rfl
    · exact .inl (EReal.coe_mul_bot_of_pos hx)
    · exact .inr (EReal.coe_mul_top_of_pos hx)

/-- An infinity and a real add to an infinity, -/
theorem far_add_real {X : EReal} (h : Far X) (y : ℝ) : Far (X + (y : EReal)) := by
  rcases h with rfl | rfl
  · exact .inl (EReal.bot_add _)
  · exact .inr (EReal.top_add_coe _)

/-- and so do two infinities. -/
theorem far_add_far {X Y : EReal} (h : Far X) (h' : Far Y) : Far (X + Y) := by
  rcases h with rfl | rfl <;> rcases h' with rfl | rfl <;> simp [Far]

/-- The coordinate of a scaled turn: an infinite turn is far. -/
theorem far_pixel {X : EReal} (h : Far X) (z : ℝ) :
    Far ((((X + (z : EReal) + 1) * ((64 : ℝ) : EReal)) - 1) * ((1 / 2 : ℝ) : EReal)) := by
  have p64 : (0 : ℝ) < 64 := by norm_num
  have p2 : (0 : ℝ) < 1 / 2 := by norm_num
  have h1 := far_add_real (far_add_real h z) 1
  rw [EReal.coe_one] at h1
  generalize X + (z : EReal) + 1 = Y at h1 ⊢
  rcases h1 with rfl | rfl
  · left
    rw [EReal.bot_mul_coe_of_pos p64, sub_eq_add_neg, EReal.bot_add, EReal.bot_mul_coe_of_pos p2]
  · right
    rw [EReal.top_mul_coe_of_pos p64, ← EReal.coe_one, EReal.top_sub_coe, EReal.top_mul_coe_of_pos p2]

/-- The coordinate of a real turn. -/
theorem real_pixel (x z : ℝ) :
    ((((x : EReal) + (z : EReal) + 1) * ((64 : ℝ) : EReal)) - 1) * ((1 / 2 : ℝ) : EReal) = ((((x + z + 1) * 64 - 1) * (1 / 2) : ℝ) : EReal) := by
  push_cast
  rfl

theorem near_pixel {x c : ℝ} (hx : |x| ≤ 1 / 32) (hc : 0 ≤ c ∧ c ≤ 1) :
    Near ((((x : EReal) + ((c / 32 - 1 : ℝ) : EReal) + 1) * ((64 : ℝ) : EReal) - 1) * ((1 / 2 : ℝ) : EReal)) := by
  have h := abs_le.mp hx
  refine ⟨_, real_pixel _ _, floor_near ?_ ?_⟩ <;> linarith [h.1, h.2, hc.1, hc.2]

/-- A sampled coordinate is by the corner, or far off if the angle is infinite. -/
theorem turned_cases {α β c : ℝ} (hα : |α| ≤ 1 / 64) (hβ : |β| ≤ 1 / 64) (hc : 0 ≤ c ∧ c ≤ 1) (a : EReal) :
    Far (turned α β (c / 32 - 1) (Ideal.cos a) (Ideal.sin a)) ∨ Near (turned α β (c / 32 - 1) (Ideal.cos a) (Ideal.sin a)) := by
  unfold turned
  have inf : ∀ C S : EReal, Far C → Far S →
      Far ((((α : EReal) * C + (β : EReal) * S + ((c / 32 - 1 : ℝ) : EReal) + 1) * ((64 : ℝ) : EReal) - 1) * ((1 / 2 : ℝ) : EReal))
      ∨ Near ((((α : EReal) * C + (β : EReal) * S + ((c / 32 - 1 : ℝ) : EReal) + 1) * ((64 : ℝ) : EReal) - 1) * ((1 / 2 : ℝ) : EReal)) := by
    intro C S hC hS
    rcases mul_inf α hC with ⟨-, e⟩ | f <;> rcases mul_inf β hS with ⟨-, e'⟩ | f'
    · right
      rw [e, e', add_zero]
      have := near_pixel (x := 0) (by norm_num) hc
      rwa [EReal.coe_zero] at this
    · left
      rw [e, zero_add]
      exact far_pixel f' _
    · left
      rw [e', add_zero]
      exact far_pixel f _
    · exact .inl (far_pixel (far_add_far f f') _)
  induction a using EReal.rec with
  | bot => exact inf _ _ (.inl rfl) (.inl rfl)
  | top => exact inf _ _ (.inl rfl) (.inl rfl)
  | coe a =>
    right
    rw [Ideal.cos_coe, Ideal.sin_coe, ← EReal.coe_mul, ← EReal.coe_mul, ← EReal.coe_add]
    have h1 : |α * Real.cos a| ≤ 1 / 64 := by
      rw [abs_mul]; exact (mul_le_of_le_one_right (abs_nonneg _) (Real.abs_cos_le_one a)).trans hα
    have h2 : |β * Real.sin a| ≤ 1 / 64 := by
      rw [abs_mul]; exact (mul_le_of_le_one_right (abs_nonneg _) (Real.abs_sin_le_one a)).trans hβ
    exact near_pixel ((abs_add_le _ _).trans (by linarith)) hc

/-- A side over 64 and a grid coordinate multiply to at most a 64th. -/
theorem side_abs {w : ℝ} {k : ℕ} (hw : 0 ≤ w ∧ w ≤ 1) (hk : k < 7) : |w / 64 * grid k| ≤ 1 / 64 := by
  rw [abs_mul, abs_of_nonneg (by linarith [hw.1])]
  exact (mul_le_of_le_one_right (by linarith [hw.1]) (grid_abs hk)).trans (by linarith [hw.2])

/-- The sampled column and row, at any angle. -/
theorem pxX_cases {cx w h : ℝ} {c r : ℕ} (hcx : 0 ≤ cx ∧ cx ≤ 1) (hw : 0 ≤ w ∧ w ≤ 1) (hh : 0 ≤ h ∧ h ≤ 1) (hc : c < 7) (hr : r < 7)
    (a : EReal) : Far (pxX cx w h a c r) ∨ Near (pxX cx w h a c r) :=
  turned_cases (side_abs hw hc) ((abs_neg _).trans_le (side_abs hh hr)) hcx a

theorem pxY_cases {cy w h : ℝ} {c r : ℕ} (hcy : 0 ≤ cy ∧ cy ≤ 1) (hw : 0 ≤ w ∧ w ≤ 1) (hh : 0 ≤ h ∧ h ≤ 1) (hc : c < 7) (hr : r < 7)
    (a : EReal) : Far (pxY cy w h a c r) ∨ Near (pxY cy w h a c r) :=
  turned_cases (side_abs hh hr) (side_abs hw hc) hcy a

/-- The weight a coordinate gives pixel `k`: what is left of its fraction if `k` is its floor, its fraction if `k - 1` is. -/
def hat (t : ℝ) (k : ℤ) : ℝ := (1 - (t - ⌊t⌋)) * (if ⌊t⌋ = k then 1 else 0) + (t - ⌊t⌋) * (if ⌊t⌋ = k - 1 then 1 else 0)

/-- The pixel of map `b`'s channel `ch` at row `y` and column `x`. -/
def pix (A : (⟨4, ![2, 384, 64, 64]⟩ : Shape).Idx → EReal) (b : Fin 2) (ch : Fin 384) (y x : ℕ) : EReal :=
  A (ix4 b ch (⟨min y 63, by omega⟩ : Fin 64) (⟨min x 63, by omega⟩ : Fin 64))

/-- The pixel at row `p` and column `q`, zero before the map's edge. -/
def tap (G : ℕ → ℕ → EReal) (p q : ℤ) : EReal := G p.toNat q.toNat * (if 0 ≤ p ∧ 0 ≤ q then 1 else 0)

/-- The four neighbours of a point, weighted. -/
def four (G : ℕ → ℕ → EReal) (s t : ℝ) : EReal :=
  tap G ⌊s⌋ ⌊t⌋ * (((1 - (s - ⌊s⌋)) * (1 - (t - ⌊t⌋)) : ℝ) : EReal)
  + tap G ⌊s⌋ (⌊t⌋ + 1) * (((1 - (s - ⌊s⌋)) * (t - ⌊t⌋) : ℝ) : EReal)
  + tap G (⌊s⌋ + 1) ⌊t⌋ * (((s - ⌊s⌋) * (1 - (t - ⌊t⌋)) : ℝ) : EReal)
  + tap G (⌊s⌋ + 1) (⌊t⌋ + 1) * (((s - ⌊s⌋) * (t - ⌊t⌋) : ℝ) : EReal)

/-- The corner's sixteen pixels, weighted by hats. -/
def sixteen (G : ℕ → ℕ → EReal) (s t : ℝ) : EReal :=
  ∑ ky : Fin 4, ∑ kx : Fin 4, ((hat s ky.val * hat t kx.val : ℝ) : EReal) * G ky.val kx.val

set_option maxHeartbeats 3200000 in
/-- For a point by the corner the two are one, whatever extended reals the map holds. -/
theorem sixteen_eq_four (G : ℕ → ℕ → EReal) {s t : ℝ} (hs : -2 ≤ ⌊s⌋ ∧ ⌊s⌋ ≤ 1) (ht : -2 ≤ ⌊t⌋ ∧ ⌊t⌋ ≤ 1) :
    sixteen G s t = four G s t := by
  obtain ⟨h1, h2⟩ := hs
  obtain ⟨h3, h4⟩ := ht
  unfold sixteen four
  simp only [hat]
  generalize s - (⌊s⌋ : ℝ) = fs
  generalize t - (⌊t⌋ : ℝ) = ft
  generalize ⌊s⌋ = p at *
  generalize ⌊t⌋ = q at *
  interval_cases p <;> interval_cases q <;>
    simp [Fin.sum_univ_four, tap, mul_comm, -EReal.coe_mul, -EReal.coe_add, -EReal.coe_sub, add_assoc]

end Cert.Bilinear

end
-- ==== Proof.Consts.lean ====
/- The float constants both programs spell, as the extended reals their patterns denote. -/
module

public import Idealize.ShloMosaic.PureOps.Ideal

@[expose] public section

noncomputable section

namespace Cert.Consts

open Idealize.ShloMosaic

/-- `0x40000000` is two. -/
theorem two : Ideal.ofBits .f32 0x40000000#32 = ((2 : ℝ) : EReal) := by simp [Ideal.ofBits, Ideal.ieee, -EReal.coe_mul]; norm_num
/-- `0x40400000` is three. -/
theorem three : Ideal.ofBits .f32 0x40400000#32 = ((3 : ℝ) : EReal) := by simp [Ideal.ofBits, Ideal.ieee, -EReal.coe_mul]; norm_num
/-- `0x40E00000` is seven. -/
theorem seven : Ideal.ofBits .f32 0x40E00000#32 = ((7 : ℝ) : EReal) := by simp [Ideal.ofBits, Ideal.ieee, -EReal.coe_mul]; norm_num
/-- `0x427C0000` is sixty-three. -/
theorem sixtyThree : Ideal.ofBits .f32 0x427C0000#32 = ((63 : ℝ) : EReal) := by simp [Ideal.ofBits, Ideal.ieee, -EReal.coe_mul]; norm_num
/-- `0x42800000` is sixty-four. -/
theorem sixtyFour : Ideal.ofBits .f32 0x42800000#32 = ((64 : ℝ) : EReal) := by simp [Ideal.ofBits, Ideal.ieee, -EReal.coe_mul]; norm_num
/-- `0x43340000` is a hundred and eighty. -/
theorem oneEighty : Ideal.ofBits .f32 0x43340000#32 = ((180 : ℝ) : EReal) := by simp [Ideal.ofBits, Ideal.ieee, -EReal.coe_mul]; norm_num
/-- `0x3F000000` is a half. -/
theorem half : Ideal.ofBits .f32 0x3F000000#32 = ((1 / 2 : ℝ) : EReal) := by simp [Ideal.ofBits, Ideal.ieee, -EReal.coe_mul]; norm_num
/-- `0x3C800000` is a sixty-fourth. -/
theorem overSixtyFour : Ideal.ofBits .f32 0x3C800000#32 = ((1 / 64 : ℝ) : EReal) := by simp [Ideal.ofBits, Ideal.ieee, -EReal.coe_mul]; norm_num
/-- `0x3D000000` is a thirty-second. -/
theorem overThirtyTwo : Ideal.ofBits .f32 0x3D000000#32 = ((1 / 32 : ℝ) : EReal) := by simp [Ideal.ofBits, Ideal.ieee, -EReal.coe_mul]; norm_num
/-- `0xBF800000` is minus one. -/
theorem negOne : Ideal.ofBits .f32 0xBF800000#32 = ((-1 : ℝ) : EReal) := by simp [Ideal.ofBits, Ideal.ieee, -EReal.coe_mul]; norm_num
/-- `0x40490FDB`, the float nearest pi. -/
theorem piF32 : Ideal.ofBits .f32 0x40490FDB#32 = ((13176795 / 4194304 : ℝ) : EReal) := by simp [Ideal.ofBits, Ideal.ieee, -EReal.coe_mul]; norm_num

end Cert.Consts

end
-- ==== Proof.KernelIdeal.Value.lean ====
/- The kernel's row read at a box and a channel, over the extended reals: sixteen hat-weighted pixels of the box's own map. -/
module

public import proofs.«01_k».proof.Proof.KernelIdeal.Point
public import proofs.«01_k».proof.Proof.Bilinear
public import proofs.«01_k».proof.Proof.Consts
public import Idealize.ShloMosaic.Lib.Pointwise
public import Idealize.ShloMosaic.Lib.Pipeline.ValueKit

@[expose] public section

set_option maxRecDepth 16384

noncomputable section

namespace Cert.KernelIdeal.Roi

open Idealize.ShloMosaic Idealize.ShloMosaic.TcCoe
open Cert.KernelIdeal Cert.KernelIdeal.Gen Cert.Bilinear

/-- Minus one degree in radians, as the kernel's constant is named. -/
def negDegree : ℝ := -878453 / 50331648

theorem named_seventh (b : BitVec 32) : Named.named (F := Ideal) κ "inv_seven" (φ := .f32) b = ((1 / 7 : ℝ) : EReal) := rfl
theorem named_degree (b : BitVec 32) : Named.named (F := Ideal) κ "neg_degree" (φ := .f32) b = ((negDegree : ℝ) : EReal) := rfl

/-- A one-bit condition widened and read as a float is one where it holds and zero elsewhere. -/
theorem bit_float (p : Prop) [Decidable p] :
    (FloatOps.sitofp .f32 (BitVec.setWidth 32 (BitVec.ofBool (decide p))) : Ideal .f32) = (((if p then 1 else 0 : ℝ)) : EReal) := by
  by_cases h : p <;> simp [h, FloatOps.sitofp]

/-- A grid index's normalized coordinate, as the kernel computes it. -/
theorem grid_apply (k : ℕ) : (((2 : ℝ) : EReal) * ((((k : ℤ) : ℝ)) : EReal) + 1) * ((1 / 7 : ℝ) : EReal) - 1 = ((grid k : ℝ) : EReal) := by
  rw [← EReal.coe_one, ← EReal.coe_mul, ← EReal.coe_add, ← EReal.coe_mul, ← EReal.coe_sub, EReal.coe_eq_coe_iff, grid]
  push_cast
  ring

/-- A normalized centre, as the kernel computes it. -/
theorem centre_apply (x : ℝ) : (x : EReal) * ((1 / 32 : ℝ) : EReal) - 1 = ((x / 32 - 1 : ℝ) : EReal) := by
  rw [← EReal.coe_one, ← EReal.coe_mul, ← EReal.coe_sub, mul_one_div]

section Pixel
variable (v : Fin 5 → FVec Ideal S1x1000 .f32) (p : Fin 4 → ℝ) (n : Fin 1000) (hv : ∀ k : Fin 4, v k.castSucc (ix2 0 n) = ((p k : ℝ) : EReal))
variable (col row : BitVec 32) (c r : ℕ) (hc : col.toInt = c) (hr : row.toInt = r)
include hv hc hr

/-- The kernel's pixel column is the one of the mathematics. -/
theorem pixX_apply : pixX (F := Ideal) (gridAt col) (gridAt row) (v 0) (v 2) (v 3) (v 4) (ix2 0 n)
    = pxX (p 0) (p 2) (p 3) (v 4 (ix2 0 n) * ((negDegree : ℝ) : EReal)) c r := by
  have h0 : v 0 (ix2 0 n) = ((p 0 : ℝ) : EReal) := hv 0
  have h2 : v 2 (ix2 0 n) = ((p 2 : ℝ) : EReal) := hv 2
  have h3 : v 3 (ix2 0 n) = ((p 3 : ℝ) : EReal) := hv 3
  pointwise [pixX, pixel, row1, angle, gridAt]
  rw [h0, h2, h3, hc, hr, named_seventh, named_degree, Consts.two, Consts.half, Consts.sixtyFour, Consts.overSixtyFour, Consts.overThirtyTwo]
  unfold pxX turned
  rw [grid_apply, grid_apply, centre_apply, term_cos, term_neg]

/-- The kernel's pixel row likewise. -/
theorem pixY_apply : pixY (F := Ideal) (gridAt col) (gridAt row) (v 1) (v 2) (v 3) (v 4) (ix2 0 n)
    = pxY (p 1) (p 2) (p 3) (v 4 (ix2 0 n) * ((negDegree : ℝ) : EReal)) c r := by
  have h1 : v 1 (ix2 0 n) = ((p 1 : ℝ) : EReal) := hv 1
  have h2 : v 2 (ix2 0 n) = ((p 2 : ℝ) : EReal) := hv 2
  have h3 : v 3 (ix2 0 n) = ((p 3 : ℝ) : EReal) := hv 3
  pointwise [pixY, pixel, row1, angle, gridAt]
  rw [h1, h2, h3, hc, hr, named_seventh, named_degree, Consts.two, Consts.half, Consts.sixtyFour, Consts.overSixtyFour, Consts.overThirtyTwo]
  unfold pxY turned
  rw [grid_apply, grid_apply, centre_apply, term_sin, term_sin, add_comm ((((p 2) / 64 * grid c : ℝ) : EReal) * _)]

end Pixel

section Weights
variable (y x : FVec Ideal S1x1000 .f32) (n : Fin 1000)

/-- A weight of a real coordinate is the hat's. -/
theorem bins_apply {t : ℝ} (hx : x (ix2 0 n) = ((t : ℝ) : EReal)) (j : Fin 4) :
    bins (F := Ideal) x j (ix2 0 n) = ((hat t j.val : ℝ) : EReal) := by
  have key : ∀ (k k' : BitVec 32) (z z' : ℤ), Ideal.ofBits .f32 k = (((z : ℝ)) : EReal) → Ideal.ofBits .f32 k' = (((z' : ℝ)) : EReal) → z' = z - 1 →
      bin (F := Ideal) x k k' (ix2 0 n) = ((hat t z : ℝ) : EReal) := by
    intro k k' z z' hk hk' hz
    pointwise [bin, hit]
    rw [bit_float, bit_float, hx, hk, hk']
    simp only [Ideal.liftRound_coe, EReal.coe_eq_coe_iff, Int.cast_inj]
    simp only [← EReal.coe_mul, ← EReal.coe_one, ← EReal.coe_add, ← EReal.coe_sub, EReal.coe_eq_coe_iff]
    rw [hat, hz]
  have e0 := Ideal.ofBits_zero_f32
  have e1 := Ideal.ofBits_one_f32
  fin_cases j
  · exact key _ _ 0 (-1) (by simpa using e0) (by simpa using Consts.negOne) rfl
  · exact key _ _ 1 0 (by simpa using e1) (by simpa using e0) rfl
  · exact key _ _ 2 1 (by simpa using Consts.two) (by simpa using e1) rfl
  · exact key _ _ 3 2 (by simpa using Consts.three) (by simpa using Consts.two) rfl

/-- A weight of a far coordinate is nothing. -/
theorem bins_far (hx : Far (x (ix2 0 n))) (j : Fin 4) : bins (F := Ideal) x j (ix2 0 n) = 0 := by
  have key : ∀ (k k' : BitVec 32) (z z' : ℤ), Ideal.ofBits .f32 k = (((z : ℝ)) : EReal) → Ideal.ofBits .f32 k' = (((z' : ℝ)) : EReal) →
      bin (F := Ideal) x k k' (ix2 0 n) = 0 := by
    intro k k' z z' hk hk'
    pointwise [bin, hit]
    rw [bit_float, bit_float, hk, hk']
    have off : ∀ w : ℝ, Ideal.liftRound Int.floor (x (ix2 0 n)) ≠ ((w : ℝ) : EReal) := by
      intro w
      rcases hx with e | e <;> rw [e] <;> simp
    rw [if_neg (off _), if_neg (off _), EReal.coe_zero, mul_zero, mul_zero, add_zero]
  have e0 := Ideal.ofBits_zero_f32
  have e1 := Ideal.ofBits_one_f32
  fin_cases j
  · exact key _ _ 0 (-1) (by simpa using e0) (by simpa using Consts.negOne)
  · exact key _ _ 1 0 (by simpa using e1) (by simpa using e0)
  · exact key _ _ 2 1 (by simpa using Consts.two) (by simpa using e1)
  · exact key _ _ 3 2 (by simpa using Consts.three) (by simpa using Consts.two)

/-- The first map's boxes are the first five hundred. -/
theorem inFirst_apply : inFirst (F := Ideal) (ix2 0 n) = (((if n.val < 500 then 1 else 0 : ℝ)) : EReal) := by
  pointwise [inFirst]
  have h : IntOp.cmpi CmpIPredicate.slt (BitVec.ofNat 32 n.val) 500#32 = BitVec.ofBool (decide (n.val < 500)) := by
    have : (BitVec.ofNat 32 n.val).toInt = n.val := by have := n.isLt; simp [BitVec.toInt_eq_toNat_cond]; omega
    simp only [IntOp.cmpi, BitVec.slt, this]
    congr 1
    simp
  rw [h, bit_float]

/-- The second map's boxes are the rest. -/
theorem inSecond_apply : inSecond (F := Ideal) (ix2 0 n) = (((if n.val < 500 then 0 else 1 : ℝ)) : EReal) := by
  pointwise [inSecond]
  rw [inFirst_apply]
  by_cases h : n.val < 500 <;> simp only [h, ↓reduceIte, EReal.coe_one, EReal.coe_zero, ← EReal.coe_sub, sub_self, sub_zero]
  · rw [← EReal.coe_one, ← EReal.coe_sub, sub_self, EReal.coe_zero]

/-- A weight, as a product of two hats and the map's mark. -/
theorem wt_apply (m : FVec Ideal S1x1000 .f32) {s t z : ℝ} (hy : y (ix2 0 n) = ((s : ℝ) : EReal)) (hx : x (ix2 0 n) = ((t : ℝ) : EReal))
    (hm : m (ix2 0 n) = ((z : ℝ) : EReal)) (ky kx : Fin 4) :
    wt (F := Ideal) m y x ky kx (ix2 0 n) = ((hat s ky.val * z * hat t kx.val : ℝ) : EReal) := by
  pointwise [wt]
  rw [bins_apply y n hy, bins_apply x n hx, hm, EReal.coe_mul, EReal.coe_mul]

/-- A weight is nothing if a coordinate is far. -/
theorem wt_far (m : FVec Ideal S1x1000 .f32) (h : Far (y (ix2 0 n)) ∨ Far (x (ix2 0 n))) (ky kx : Fin 4) :
    wt (F := Ideal) m y x ky kx (ix2 0 n) = 0 := by
  pointwise [wt]
  rcases h with h | h
  · rw [bins_far y n h, zero_mul, zero_mul]
  · rw [bins_far x n h, mul_zero]

end Weights

set_option maxHeartbeats 3200000 in
/-- Weight number `k`, by its map, pixel row and pixel column. -/
theorem weights_apply (y x : FVec Ideal S1x1000 .f32) (n : Fin 1000) (k : Fin 32) :
    weights (F := Ideal) y x (ix2 k n)
      = wt (F := Ideal) (if k.val < 16 then inFirst else inSecond) y x ⟨k.val / 4 % 4, Nat.mod_lt _ (by decide)⟩ ⟨k.val % 4, Nat.mod_lt _ (by decide)⟩ (ix2 0 n) := by
  unfold weights
  concat_tiles i h
  all_goals
    have hi : i = ix2 0 n := by
      funext a
      apply Fin.ext
      fin_cases a
      · exact h0
      · exact h1
    have hk : k.val = _ := h
    rw [hi]
    simp only [hk, Nat.reduceLT, ↓reduceIte, Nat.reduceDiv, Nat.reduceMod]
    rfl

set_option maxHeartbeats 3200000 in
/-- Corner pixel number `k`, by its map, pixel row and pixel column. -/
theorem corner_apply (b : Fin 2 → Fin 4 → FVec Ideal S1x1x4x384 .f32) (ch : Fin 384) (k : Fin 32) :
    corner (F := Ideal) b (ix2 k ch)
      = b ⟨k.val / 16, by omega⟩ ⟨k.val / 4 % 4, Nat.mod_lt _ (by decide)⟩ (ix4 0 0 ⟨k.val % 4, Nat.mod_lt _ (by decide)⟩ ch) := by
  pointwise [corner, pix4]
  fin_vals k with hk
  all_goals (simp only [hk, Nat.reduceSub, Nat.reduceLT, ↓reduceDIte, ↓reduceIte, Nat.reduceDiv, Nat.reduceMod]; rfl)

/-- A sum over the 32 corner pixels, taken by map, pixel row and pixel column. -/
theorem sum_pixels (f : Fin 2 → Fin 4 → Fin 4 → EReal) :
    (∑ k : Fin 32, f ⟨k.val / 16, by omega⟩ ⟨k.val / 4 % 4, Nat.mod_lt _ (by decide)⟩ ⟨k.val % 4, Nat.mod_lt _ (by decide)⟩)
      = ∑ b : Fin 2, ∑ ky : Fin 4, ∑ kx : Fin 4, f b ky kx := by
  simp only [Fin.sum_univ_succ, Fin.sum_univ_zero, add_zero, add_assoc]
  rfl

/-- The mark of a box on a map: one on its own, nothing on the other. -/
def mark (n b : ℕ) : ℝ := if n / 500 = b then 1 else 0

/-- The marks of the two maps, by a corner pixel's number. -/
theorem mark_apply (n : Fin 1000) (k : Fin 32) :
    (if k.val < 16 then inFirst (F := Ideal) else inSecond) (ix2 0 n) = ((mark n.val (k.val / 16) : ℝ) : EReal) := by
  have hn := n.isLt
  have hk32 := k.isLt
  by_cases hk : k.val < 16
  · rw [if_pos hk, inFirst_apply, mark, show k.val / 16 = 0 by omega]
    congr 1
    by_cases h : n.val < 500
    · rw [if_pos h, if_pos (by omega)]
    · rw [if_neg h, if_neg (by omega)]
  · rw [if_neg hk, inSecond_apply, mark, show k.val / 16 = 1 by omega]
    congr 1
    by_cases h : n.val < 500
    · rw [if_pos h, if_neg (by omega)]
    · rw [if_neg h, if_pos (by omega)]

/-- The kernel's row where the box's grid point is by the corner: the box's own map, sixteen pixels of it weighted. -/
theorem point_apply {col row : BitVec 32} {c r : ℕ} (hcol : col.toInt = c) (hrow : row.toInt = r) (v : Fin 5 → FVec Ideal S1x1000 .f32)
    (b : Fin 2 → Fin 4 → FVec Ideal S1x1x4x384 .f32) (p : Fin 4 → ℝ) (n : Fin 1000) (ch : Fin 384)
    (hv : ∀ k : Fin 4, v k.castSucc (ix2 0 n) = ((p k : ℝ) : EReal)) (G : ℕ → ℕ → EReal)
    (hG : ∀ ky kx : Fin 4, b ⟨n.val / 500, by omega⟩ ky (ix4 0 0 kx ch) = G ky.val kx.val) {s t : ℝ}
    (hs : pxY (p 1) (p 2) (p 3) (v 4 (ix2 0 n) * ((negDegree : ℝ) : EReal)) c r = ((s : ℝ) : EReal))
    (ht : pxX (p 0) (p 2) (p 3) (v 4 (ix2 0 n) * ((negDegree : ℝ) : EReal)) c r = ((t : ℝ) : EReal)) :
    point (F := Ideal) col row v b (ix3 0 n ch) = sixteen G s t := by
  have hX := (pixX_apply v p n hv col row c r hcol hrow).trans ht
  have hY := (pixY_apply v p n hv col row c r hcol hrow).trans hs
  pointwise [point]
  simp only [weights_apply, corner_apply]
  have hw : ∀ k : Fin 32, wt (F := Ideal) (if k.val < 16 then inFirst else inSecond)
      (pixY (gridAt col) (gridAt row) (v 1) (v 2) (v 3) (v 4)) (pixX (gridAt col) (gridAt row) (v 0) (v 2) (v 3) (v 4))
      ⟨k.val / 4 % 4, Nat.mod_lt _ (by decide)⟩ ⟨k.val % 4, Nat.mod_lt _ (by decide)⟩ (ix2 0 n)
      = ((hat s (k.val / 4 % 4 : ℕ) * mark n.val (k.val / 16) * hat t (k.val % 4 : ℕ) : ℝ) : EReal) := fun k =>
    wt_apply _ _ n _ hY hX (mark_apply n k) _ _
  simp only [hw]
  refine (sum_pixels fun m ky kx => ((hat s ky.val * mark n.val m.val * hat t kx.val : ℝ) : EReal) * b m ky (ix4 0 0 kx ch)).trans ?_
  have hn := n.isLt
  have hself : mark n.val (n.val / 500) = 1 := if_pos rfl
  have hother : ∀ m : Fin 2, m ≠ ⟨n.val / 500, by omega⟩ → mark n.val m.val = 0 := fun m hm =>
    if_neg fun h => hm (Fin.ext h.symm)
  rw [Finset.sum_eq_single (⟨n.val / 500, by omega⟩ : Fin 2) ?_ (fun h => absurd (Finset.mem_univ _) h)]
  · simp only [hself, mul_one, hG]
    rfl
  · intro m _ hm
    simp only [hother m hm, mul_zero, zero_mul, EReal.coe_zero, Finset.sum_const_zero]

/-- The kernel's row where it is far: nothing. -/
theorem point_far {col row : BitVec 32} {c r : ℕ} (hcol : col.toInt = c) (hrow : row.toInt = r) (v : Fin 5 → FVec Ideal S1x1000 .f32)
    (b : Fin 2 → Fin 4 → FVec Ideal S1x1x4x384 .f32) (p : Fin 4 → ℝ) (n : Fin 1000) (ch : Fin 384)
    (hv : ∀ k : Fin 4, v k.castSucc (ix2 0 n) = ((p k : ℝ) : EReal))
    (h : Far (pxY (p 1) (p 2) (p 3) (v 4 (ix2 0 n) * ((negDegree : ℝ) : EReal)) c r)
      ∨ Far (pxX (p 0) (p 2) (p 3) (v 4 (ix2 0 n) * ((negDegree : ℝ) : EReal)) c r)) :
    point (F := Ideal) col row v b (ix3 0 n ch) = 0 := by
  rw [← pixX_apply v p n hv col row c r hcol hrow, ← pixY_apply v p n hv col row c r hcol hrow] at h
  pointwise [point]
  simp only [weights_apply, wt_far _ _ n _ h, zero_mul, Finset.sum_const_zero]

end Cert.KernelIdeal.Roi

end
-- ==== Proof.KernelIdeal.Reads.lean ====
/- The kernel's blocks read at coordinates, and with them its whole result as weighted pixels of its arguments. -/
module

public import proofs.«01_k».proof.Proof.KernelIdeal.Value
public import proofs.«01_k».proof.Proof.KernelIdeal.Result

@[expose] public section

set_option maxRecDepth 16384

noncomputable section

namespace Cert.KernelIdeal.Roi

open Idealize.ShloMosaic Idealize.ShloMosaic.TcCoe
open Cert.KernelIdeal Cert.KernelIdeal.Gen Cert.Bilinear

/-- Both windows sit at the origin at every step. -/
theorem idx : ∀ t : Fin cfg0.N, win0_0.index t = ![0, 0] ∧ win0_1.index t = ![0, 0, 0, 0] :=
  (by decide +kernel : ∀ t : Fin grid0.N, _)

variable (m : (ℓ : Loc nD τ sig) → Buf (Elt Ideal) ℓ) (c : Dev nD)

/-- The first window's array: the proposals by coordinate, the boxes of both images in one row. -/
theorem proposals_at : V m c main_v1
    = shapeCast S5x1000 (transpose S5x2x500 [2, 0, 1] (m ((c.tc : Thread nD τ).loc main_arg1)) transposes_S2x500x5_S5x2x500_2_0_1)
        shapeCasts_S5x2x500_S5x1000 := by
  entry_read
  simp only [hostOps0, List.flatten_cons, List.flatten_nil, List.append_nil]
  after_results_simp
  try rfl

/-- The second window's array: the maps, channels last. -/
theorem maps_at : V m c main_v2
    = transpose S2x64x64x384 [0, 2, 3, 1] (m ((c.tc : Thread nD τ).loc main_arg0)) transposes_S2x384x64x64_S2x64x64x384_0_2_3_1 := by
  entry_read
  simp only [hostOps0, List.flatten_cons, List.flatten_nil, List.append_nil]
  after_results_simp
  try rfl

/-- The first block is its array, -/
theorem block0 (t : Fin cfg0.N) (k : Fin 5) (n : Fin 1000) : iblk m c 0 t (ix2 k n) = V m c main_v1 (ix2 k n) := by
  blk_ext [iblk, idx t]

/-- and the second the corner of its own. -/
theorem block1 (t : Fin cfg0.N) (b : Fin 2) (y : Fin 4) (x : Fin 8) (ch : Fin 384) :
    iblk m c 1 t (ix4 b y x ch) = V m c main_v2 (ix4 b (⟨y.val, by omega⟩ : Fin 64) (⟨x.val, by omega⟩ : Fin 64) ch) := by
  blk_ext [iblk, idx t]

/-- Row `k` of the proposals, -/
theorem proposals_read (k : Fin 5) (n : Fin 1000) : V m c main_v1 (ix2 k n)
    = m ((c.tc : Thread nD τ).loc main_arg1) (ix3 (⟨n.val / 500, by omega⟩ : Fin 2) (⟨n.val % 500, Nat.mod_lt _ (by decide)⟩ : Fin 500) k) := by
  rw [proposals_at]
  pointwise []

/-- a pixel of the maps. -/
theorem maps_read (b : Fin 2) (y x : Fin 64) (ch : Fin 384) : V m c main_v2 (ix4 b y x ch)
    = m ((c.tc : Thread nD τ).loc main_arg0) (ix4 b ch y x) := by
  rw [maps_at]
  pointwise []

/-- The staged proposals: number `n` counts the boxes of both images. -/
theorem prop_read (t : Fin cfg0.N) (k : Fin 5) (n : Fin 1000) :
    propOf (F := Ideal) (iblk m c 0 t) k (ix2 0 n)
      = m ((c.tc : Thread nD τ).loc main_arg1) (ix3 (⟨n.val / 500, by omega⟩ : Fin 2) (⟨n.val % 500, Nat.mod_lt _ (by decide)⟩ : Fin 500) k) := by
  rw [← proposals_read m c k n, ← block0 m c t]
  fin_cases k <;> pointwise [propOf]

/-- The staged corners. -/
theorem map_read (t : Fin cfg0.N) (b : Fin 2) (y x : Fin 4) (ch : Fin 384) :
    mapOf (F := Ideal) (iblk m c 1 t) b y (ix4 0 0 x ch)
      = m ((c.tc : Thread nD τ).loc main_arg0) (ix4 b ch (⟨y.val, by omega⟩ : Fin 64) (⟨x.val, by omega⟩ : Fin 64)) := by
  refine Eq.trans ?_ ((block1 m c t b y (⟨x.val, by omega⟩ : Fin 8) ch).trans (maps_read m c b _ _ ch))
  fin_cases b <;> fin_cases y <;> pointwise [mapOf]

/-- The kernel's result at a box, channel, grid row and column is a row that one grid step computes. -/
theorem result_row (n : Fin 1000) (ch : Fin 384) (r q : Fin 7) : ∃ t : Fin cfg0.N,
    shapeCast S1000x384x7x7 (transpose S1000x384x49 [1, 2, 0] (pooled m c) transposes_S49x1000x384_S1000x384x49_1_2_0)
        shapeCasts_S1000x384x49_S1000x384x7x7 (ix4 n ch r q)
      = point (F := Ideal) (BitVec.ofNat 32 q.val) (BitVec.ofNat 32 r.val) (propOf (iblk m c 0 t)) (mapOf (iblk m c 1 t)) (ix3 0 n ch) := by
  have hr := r.isLt
  have hq := q.isLt
  have hm : (r.val * 7 + q.val) % 7 = q.val := by omega
  have hd : (r.val * 7 + q.val) / 7 = r.val := by omega
  refine ⟨stepOf (ix3 (⟨r.val * 7 + q.val, by omega⟩ : Fin 49) n ch), ?_⟩
  pointwise []
  unfold pooled
  show point (F := Ideal) (BitVec.ofNat 32 ((r.val * 7 + q.val) % 7)) (BitVec.ofNat 32 ((r.val * 7 + q.val) / 7)) _ _ (oix n ch) = _
  rw [hm, hd]
  rfl

/-- A grid index's word. -/
theorem index_word {k : ℕ} (hk : k < 7) : (BitVec.ofNat 32 k).toInt = k := by
  simp [BitVec.toInt_eq_toNat_cond]; omega

section Result
variable (n : Fin 1000) (ch : Fin 384) (r q : Fin 7) (p : Fin 4 → ℝ) (a : EReal)
  (hp : ∀ k : Fin 4, m ((c.tc : Thread nD τ).loc main_arg1)
    (ix3 (⟨n.val / 500, by omega⟩ : Fin 2) (⟨n.val % 500, Nat.mod_lt _ (by decide)⟩ : Fin 500) k.castSucc) = ((p k : ℝ) : EReal))
  (ha : m ((c.tc : Thread nD τ).loc main_arg1)
    (ix3 (⟨n.val / 500, by omega⟩ : Fin 2) (⟨n.val % 500, Nat.mod_lt _ (by decide)⟩ : Fin 500) 4) = a)
include hp ha

/-- The kernel's result where the rotated grid point is by the corner: the corner's pixels of the box's own map under the
    weights of the point. -/
theorem result_apply {s t : ℝ} (hs : pxY (p 1) (p 2) (p 3) (a * ((negDegree : ℝ) : EReal)) q.val r.val = ((s : ℝ) : EReal))
    (ht : pxX (p 0) (p 2) (p 3) (a * ((negDegree : ℝ) : EReal)) q.val r.val = ((t : ℝ) : EReal)) :
    shapeCast S1000x384x7x7 (transpose S1000x384x49 [1, 2, 0] (pooled m c) transposes_S49x1000x384_S1000x384x49_1_2_0)
        shapeCasts_S1000x384x49_S1000x384x7x7 (ix4 n ch r q)
      = sixteen (pix (m ((c.tc : Thread nD τ).loc main_arg0)) ⟨n.val / 500, by omega⟩ ch) s t := by
  obtain ⟨u, e⟩ := result_row m c n ch r q
  have hA : propOf (F := Ideal) (iblk m c 0 u) 4 (ix2 0 n) = a := (prop_read m c u 4 n).trans ha
  rw [e]
  refine point_apply (index_word q.isLt) (index_word r.isLt) _ _ p n ch (fun k => (prop_read m c _ _ n).trans (hp k)) _ (fun ky kx => ?_)
    (by rw [hA, hs]) (by rw [hA, ht])
  refine (map_read m c _ _ ky kx ch).trans ?_
  have h1 : min ky.val 63 = ky.val := by omega
  have h2 : min kx.val 63 = kx.val := by omega
  simp only [pix, h1, h2]

/-- Where it is far: nothing. -/
theorem result_far (h : Far (pxY (p 1) (p 2) (p 3) (a * ((negDegree : ℝ) : EReal)) q.val r.val)
      ∨ Far (pxX (p 0) (p 2) (p 3) (a * ((negDegree : ℝ) : EReal)) q.val r.val)) :
    shapeCast S1000x384x7x7 (transpose S1000x384x49 [1, 2, 0] (pooled m c) transposes_S49x1000x384_S1000x384x49_1_2_0)
        shapeCasts_S1000x384x49_S1000x384x7x7 (ix4 n ch r q) = (0 : EReal) := by
  obtain ⟨u, e⟩ := result_row m c n ch r q
  have hA : propOf (F := Ideal) (iblk m c 0 u) 4 (ix2 0 n) = a := (prop_read m c u 4 n).trans ha
  rw [e]
  exact point_far (index_word q.isLt) (index_word r.isLt) _ _ p n ch (fun k => (prop_read m c _ _ n).trans (hp k)) (by rw [hA]; exact h)

end Result

end Cert.KernelIdeal.Roi

end
-- ==== Proof.ReferenceIdeal.Taps.lean ====
/- The reference's reads of the maps: what its gather takes, and a word clamped to the map. -/
module

public import proofs.«01_k».proof.Proof.Gen.ReferenceIdeal.Run
public import proofs.«01_k».proof.Proof.Bilinear
public import proofs.«01_k».proof.Proof.Consts
public import Idealize.ShloMosaic.Lib.Pointwise
public import Idealize.ShloMosaic.Lib.Tactic.CleanTypes

@[expose] public section

set_option maxRecDepth 16384

noncomputable section

namespace Cert.ReferenceIdeal.Roi

open Idealize.ShloMosaic Idealize.ShloMosaic.TcCoe
open Cert.ReferenceIdeal Cert.ReferenceIdeal.Gen Cert.ReferenceIdeal.Value Cert.Bilinear

/-- The gather's dimension numbers. -/
abbrev dims : GatherDims S2x384x64x64 S1000x7x7x3 S1000x7x7x384 := gather_S2x384x64x64_S1000x7x7x3_S1000x7x7x384_3_023_n_n_023_3_138411

/-- The start of the read on an axis the index array names: component `e` of the index vector, brought onto the map. -/
theorem start_named (ix : IVec S1000x7x7x3 32) (n : Fin 1000) (r c : Fin 7) (ch : Fin 384) (a : Fin 4) (e : Fin 3)
    (ha : a ∈ dims.startIndexMap) (he : List.idxOf a dims.startIndexMap = e.val) :
    dims.start (ix4 n r c ch) ix a = min (ix (ix4 n r c e)).toInt.toNat (S2x384x64x64.size a - dims.sliceSizes a) := by
  unfold GatherDims.start
  rw [dif_pos ha]
  have hsi : dims.siIdx (ix4 n r c ch) ⟨List.idxOf a dims.startIndexMap, List.idxOf_lt_length_iff.2 ha⟩ = ix4 n r c e := by
    funext b; refine Fin.ext ?_
    match b with
    | ⟨0, _⟩ => rfl
    | ⟨1, _⟩ => rfl
    | ⟨2, _⟩ => rfl
    | ⟨3, _⟩ => exact he
  rw [hsi]

/-- The gather at a box, grid row, grid column and channel: the map's pixel its index vector names, brought onto the map. -/
theorem gather_apply (A : FVec Ideal S2x384x64x64 .f32) (ix : IVec S1000x7x7x3 32) (n : Fin 1000) (r c : Fin 7) (ch : Fin 384) :
    Host.gather dims A ix (ix4 n r c ch)
      = A (ix4 (⟨min (ix (ix4 n r c 0)).toInt.toNat 1, by omega⟩ : Fin 2) ch (⟨min (ix (ix4 n r c 1)).toInt.toNat 63, by omega⟩ : Fin 64)
          (⟨min (ix (ix4 n r c 2)).toInt.toNat 63, by omega⟩ : Fin 64)) := by
  unfold Host.gather
  congr 1
  funext a
  refine Fin.ext ?_
  show dims.start (ix4 n r c ch) ix a + dims.batchCoord (ix4 n r c ch) a + dims.offCoord (ix4 n r c ch) a = _
  rw [GatherDims.batchCoord_eq_zero _ _ _ List.not_mem_nil]
  match a with
  | ⟨0, _⟩ =>
    rw [start_named ix n r c ch ⟨0, by decide⟩ 0 (show (0 : Fin 4) ∈ [0, 2, 3] by decide) (show List.idxOf (0 : Fin 4) [0, 2, 3] = 0 by decide),
      GatherDims.offCoord_eq_zero _ _ _ (fun h => ((GatherDims.mem_sKept _ _).mp h).1 (show (0 : Fin 4) ∈ [0, 2, 3] by decide))]
    rfl
  | ⟨1, _⟩ =>
    have h0 : dims.start (ix4 n r c ch) ix ⟨1, by decide⟩ = 0 := by
      unfold GatherDims.start
      rw [dif_neg (by decide)]
    rw [h0]
    have h1 : dims.offCoord (ix4 n r c ch) ⟨1, by decide⟩ = ch.val := by
      unfold GatherDims.offCoord
      rw [dif_pos ((GatherDims.mem_sKept _ _).mpr ⟨by decide, by decide⟩)]
      rfl
    rw [h1]
    simp
  | ⟨2, _⟩ =>
    rw [start_named ix n r c ch ⟨2, by decide⟩ 1 (show (2 : Fin 4) ∈ [0, 2, 3] by decide) (show List.idxOf (2 : Fin 4) [0, 2, 3] = 1 by decide),
      GatherDims.offCoord_eq_zero _ _ _ (fun h => ((GatherDims.mem_sKept _ _).mp h).1 (show (2 : Fin 4) ∈ [0, 2, 3] by decide))]
    rfl
  | ⟨3, _⟩ =>
    rw [start_named ix n r c ch ⟨3, by decide⟩ 2 (show (3 : Fin 4) ∈ [0, 2, 3] by decide) (show List.idxOf (3 : Fin 4) [0, 2, 3] = 2 by decide),
      GatherDims.offCoord_eq_zero _ _ _ (fun h => ((GatherDims.mem_sKept _ _).mp h).1 (show (3 : Fin 4) ∈ [0, 2, 3] by decide))]
    rfl

/-- A whole number by the corner, brought onto the map and read as a word. -/
theorem clamped {t : ℤ} (h : -2 ≤ t ∧ t ≤ 2) :
    Ideal.fptosi 32 (min (((63 : ℝ)) : EReal) (max (((0 : ℝ)) : EReal) (((t : ℝ)) : EReal))) = BitVec.ofNat 32 t.toNat := by
  obtain ⟨h1, h2⟩ := h
  have e : (min (((63 : ℝ)) : EReal) (max (((0 : ℝ)) : EReal) (((t : ℝ)) : EReal))) = (((t.toNat : ℕ) : ℝ) : EReal) := by
    rw [← (EReal.coe_strictMono.monotone.map_max), ← (EReal.coe_strictMono.monotone.map_min)]
    congr 1
    interval_cases t <;> norm_num
    rfl
  rw [e, Ideal.fptosi, Ideal.toIntClamped_coe, if_pos (Nat.cast_nonneg _), Int.floor_natCast]
  interval_cases t <;> rfl

/-- A word that is not negative is not wrapped. -/
theorem wrap_eq (z : BitVec 32) {k : ℕ} (hk : k < 64) :
    Scalar.select (IntOp.cmpi CmpIPredicate.slt (BitVec.ofNat 32 k) 0#32) z (BitVec.ofNat 32 k) = BitVec.ofNat 32 k := by
  have h : (BitVec.ofNat 32 k).toInt = k := by simp [BitVec.toInt_eq_toNat_cond]; omega
  have : IntOp.cmpi CmpIPredicate.slt (BitVec.ofNat 32 k) 0#32 = 0#1 := by
    simp only [IntOp.cmpi, BitVec.slt, h, BitVec.toInt_zero]
    rw [decide_eq_false (by omega)]
    rfl
  rw [this]
  rfl

/-- A small word names its pixel. -/
theorem word_nat {k : ℕ} (hk : k < 64) : (BitVec.ofNat 32 k).toInt.toNat = k := by
  have h : (BitVec.ofNat 32 k).toInt = k := by simp [BitVec.toInt_eq_toNat_cond]; omega
  rw [h, Int.toNat_natCast]

/-- The mark of a neighbour on the map: by the corner only the near edges count. -/
theorem valid_eq {p q : ℤ} (hp : -2 ≤ p ∧ p ≤ 2) (hq : -2 ≤ q ∧ q ≤ 2) :
    FloatOps.uitofp (F := Ideal) FTy.f32 (IntOp.andi (IntOp.andi (IntOp.andi
      (BitVec.ofBool (decide ((0 : EReal) ≤ (((p : ℝ)) : EReal)))) (BitVec.ofBool (decide ((((p : ℝ)) : EReal) ≤ Ideal.ofBits .f32 1115422720#32))))
      (BitVec.ofBool (decide ((0 : EReal) ≤ (((q : ℝ)) : EReal))))) (BitVec.ofBool (decide ((((q : ℝ)) : EReal) ≤ Ideal.ofBits .f32 1115422720#32))))
      = (if 0 ≤ p ∧ 0 ≤ q then 1 else 0 : EReal) := by
  rw [Consts.sixtyThree]
  simp only [← EReal.coe_zero, EReal.coe_le_coe_iff, Int.cast_nonneg_iff]
  have hp' : ((p : ℝ) ≤ 63) := by exact_mod_cast (by omega : p ≤ 63)
  have hq' : ((q : ℝ) ≤ 63) := by exact_mod_cast (by omega : q ≤ 63)
  simp only [hp', hq', decide_true]
  show (((BitVec.toNat _ : ℕ) : ℝ) : EReal) = _
  by_cases h1 : 0 ≤ p <;> by_cases h2 : 0 ≤ q <;> simp [h1, h2, IntOp.andi]

/-- Neither end of the map's edge is passed by a far coordinate. -/
theorem edge_far {y : EReal} (h : Far y) :
    decide ((0 : EReal) ≤ y) = false ∨ decide (y ≤ Ideal.ofBits .f32 1115422720#32) = false := by
  rw [Consts.sixtyThree]
  rcases h with rfl | rfl
  · left; simp
  · right; simp [EReal.coe_lt_top]

/-- One neighbour of the reference with a far coordinate: nothing. -/
theorem tap_far (A y x : EReal) (h : Far y ∨ Far x) :
    A * FloatOps.uitofp (F := Ideal) FTy.f32 (IntOp.andi (IntOp.andi (IntOp.andi
          (BitVec.ofBool (decide (0 ≤ y))) (BitVec.ofBool (decide (y ≤ Ideal.ofBits .f32 1115422720#32))))
          (BitVec.ofBool (decide (0 ≤ x)))) (BitVec.ofBool (decide (x ≤ Ideal.ofBits .f32 1115422720#32)))) = 0 := by
  have and_off : ∀ p q r s : Bool, p = false ∨ q = false ∨ r = false ∨ s = false →
      IntOp.andi (IntOp.andi (IntOp.andi (BitVec.ofBool p) (BitVec.ofBool q)) (BitVec.ofBool r)) (BitVec.ofBool s) = 0#1 := by
    decide
  rw [and_off _ _ _ _ (by rcases h with h | h <;> rcases edge_far h with e | e <;> simp only [e, true_or, or_true])]
  show A * (((BitVec.toNat 0#1 : ℕ) : ℝ) : EReal) = 0
  simp

/-- One neighbour of the reference: the pixel it reads, zero before the map's edge. -/
theorem tap_apply (A : FVec Ideal S2x384x64x64 .f32) (b : Fin 2) (ch : Fin 384) {p q : ℤ} (hp : -2 ≤ p ∧ p ≤ 2) (hq : -2 ≤ q ∧ q ≤ 2)
    (w0 w1 w2 z0 z1 z2 : BitVec 32) (e0 : w0 = BitVec.ofNat 32 b.val) (e1 : w1 = BitVec.ofNat 32 p.toNat) (e2 : w2 = BitVec.ofNat 32 q.toNat)
    (y x : EReal) (ey : y = (((p : ℝ)) : EReal)) (ex : x = (((q : ℝ)) : EReal)) :
    A (ix4 (⟨min (Scalar.select (IntOp.cmpi CmpIPredicate.slt w0 0#32) z0 w0).toInt.toNat 1, by omega⟩ : Fin 2) ch
        (⟨min (Scalar.select (IntOp.cmpi CmpIPredicate.slt w1 0#32) z1 w1).toInt.toNat 63, by omega⟩ : Fin 64)
        (⟨min (Scalar.select (IntOp.cmpi CmpIPredicate.slt w2 0#32) z2 w2).toInt.toNat 63, by omega⟩ : Fin 64))
      * FloatOps.uitofp (F := Ideal) FTy.f32 (IntOp.andi (IntOp.andi (IntOp.andi
          (BitVec.ofBool (decide (0 ≤ y))) (BitVec.ofBool (decide (y ≤ Ideal.ofBits .f32 1115422720#32))))
          (BitVec.ofBool (decide (0 ≤ x)))) (BitVec.ofBool (decide (x ≤ Ideal.ofBits .f32 1115422720#32))))
      = tap (pix A b ch) p q := by
  subst e0 e1 e2 ey ex
  rw [valid_eq hp hq, tap, pix]
  have hb : b.val < 64 := by omega
  have hp' : p.toNat < 64 := by omega
  have hq' : q.toNat < 64 := by omega
  simp only [wrap_eq _ hb, wrap_eq _ hp', wrap_eq _ hq', word_nat hb, word_nat hp', word_nat hq']
  have hb1 : (⟨min b.val 1, by omega⟩ : Fin 2) = b := Fin.ext (by show min b.val 1 = b.val; omega)
  rw [hb1]

end Cert.ReferenceIdeal.Roi

end
-- ==== Proof.ReferenceIdeal.Value.lean ====
/- The reference's result at a box, channel, grid row and grid column: the four neighbours of the sampled point, weighted. -/
module

public import proofs.«01_k».proof.Proof.ReferenceIdeal.Taps

@[expose] public section

set_option maxRecDepth 16384

noncomputable section

namespace Cert.ReferenceIdeal.Roi

open Idealize.ShloMosaic Idealize.ShloMosaic.TcCoe
open Cert.ReferenceIdeal Cert.ReferenceIdeal.Gen Cert.ReferenceIdeal.Value Cert.Bilinear

variable (V0 : Valuation τ sig (Elt Ideal))

/-- The boxes of both images in one list. -/
theorem boxes_apply (n : Fin 1000) (k : Fin 5) : res_main_v0 V0 (ix2 n k)
    = V0 (Proc.devRef .tc main_arg1) (ix3 (⟨n.val / 500, by omega⟩ : Fin 2) (⟨n.val % 500, Nat.mod_lt _ (by decide)⟩ : Fin 500) k) := by
  unfold res_main_v0
  pointwise []

/-- A grid index as a real. -/
theorem index_real (k : Fin 7) : FloatOps.sitofp (F := Ideal) FTy.f32 (BitVec.ofNat 32 k.val) = (((k.val : ℕ) : ℝ) : EReal) := by
  have h : (BitVec.ofNat 32 k.val).toInt = (k.val : ℤ) := by simp [BitVec.toInt_eq_toNat_cond]; omega
  show (((BitVec.ofNat 32 k.val).toInt : ℝ) : EReal) = _
  rw [h]
  rfl

/-- A grid index's normalized coordinate, as the reference computes it. -/
theorem grid_apply (k : ℕ) :
    ((-1 : ℝ) : EReal) + Ideal.div (((2 : ℝ) : EReal) * ((k : ℝ) : EReal) + 1) ((7 : ℝ) : EReal) = ((grid k : ℝ) : EReal) := by
  rw [Ideal.div_coe (by norm_num), ← EReal.coe_one, ← EReal.coe_mul, ← EReal.coe_add, ← EReal.coe_mul, ← EReal.coe_add, EReal.coe_eq_coe_iff, grid]
  ring

/-- A normalized centre, as the reference computes it. -/
theorem centre_apply (x : ℝ) : Ideal.div (((2 : ℝ) : EReal) * (x : EReal)) ((64 : ℝ) : EReal) - 1 = ((x / 32 - 1 : ℝ) : EReal) := by
  rw [Ideal.div_coe (by norm_num), ← EReal.coe_one, ← EReal.coe_mul, ← EReal.coe_mul, ← EReal.coe_sub, EReal.coe_eq_coe_iff]
  ring

/-- An angle in radians, whatever extended real it is. -/
theorem turn_apply (a : EReal) :
    Ideal.div (-a * ((13176795 / 4194304 : ℝ) : EReal)) ((180 : ℝ) : EReal) = a * ((-878453 / 50331648 : ℝ) : EReal) := by
  rw [Ideal.div_coe (by norm_num), mul_assoc, ← EReal.coe_mul, neg_mul, ← mul_neg, ← EReal.coe_neg]
  norm_num

/-- A negated side over 64. -/
theorem neg_side (h : ℝ) : Ideal.div (-(h : EReal)) ((64 : ℝ) : EReal) = 0 - (h : EReal) * ((1 / 64 : ℝ) : EReal) := by
  rw [Ideal.div_coe (by norm_num), ← EReal.coe_neg, ← EReal.coe_mul, ← EReal.coe_mul, ← EReal.coe_zero, ← EReal.coe_sub, EReal.coe_eq_coe_iff]
  ring

section Point
variable (n : Fin 1000) (p : Fin 4 → ℝ) (hp : ∀ k : Fin 4, res_main_v0 V0 (ix2 n k.castSucc) = ((p k : ℝ) : EReal))
  (a : EReal) (ha : res_main_v0 V0 (ix2 n 4) = a)
include hp ha

/-- The pixel column sampled at a box, grid row and grid column, -/
theorem column_apply (r c : Fin 7) : res_main_v103 V0 (ix3 n r c) = pxX (p 0) (p 2) (p 3) (a * ((-878453 / 50331648 : ℝ) : EReal)) c.val r.val := by
  have h0 : res_main_v0 V0 (ix2 n 0) = ((p 0 : ℝ) : EReal) := hp 0
  have h2 : res_main_v0 V0 (ix2 n 2) = ((p 2 : ℝ) : EReal) := hp 2
  have h3 : res_main_v0 V0 (ix2 n 3) = ((p 3 : ℝ) : EReal) := hp 3
  unfold res_main_v103 res_main_v9 res_main_v11 res_main_v66 res_main_v67 res_main_v18
  clean_types
  pointwise []
  simp only [h0, h2, h3, ha, index_real, Consts.two, Consts.seven, Consts.sixtyFour, Consts.oneEighty, Consts.negOne, Consts.piF32]
  unfold pxX turned
  rw [turn_apply, grid_apply, grid_apply, centre_apply, neg_side, Ideal.div_coe (by norm_num), Ideal.div_coe (by norm_num), term_sin, term_neg]

/-- and the pixel row. -/
theorem row_apply (r c : Fin 7) : res_main_v111 V0 (ix3 n r c) = pxY (p 1) (p 2) (p 3) (a * ((-878453 / 50331648 : ℝ) : EReal)) c.val r.val := by
  have h1 : res_main_v0 V0 (ix2 n 1) = ((p 1 : ℝ) : EReal) := hp 1
  have h2 : res_main_v0 V0 (ix2 n 2) = ((p 2 : ℝ) : EReal) := hp 2
  have h3 : res_main_v0 V0 (ix2 n 3) = ((p 3 : ℝ) : EReal) := hp 3
  unfold res_main_v111 res_main_v9 res_main_v11 res_main_v66 res_main_v67 res_main_v18
  clean_types
  pointwise []
  simp only [h1, h2, h3, ha, index_real, Consts.two, Consts.seven, Consts.sixtyFour, Consts.oneEighty, Consts.negOne, Consts.piF32]
  unfold pxY turned
  rw [turn_apply, grid_apply, grid_apply, centre_apply, Ideal.div_coe (by norm_num), Ideal.div_coe (by norm_num), Ideal.div_coe (by norm_num), term_sin, term_sin,
    add_comm ((((p 2) / 64 * grid c.val : ℝ) : EReal) * _)]

end Point

/-- The image a box belongs to. -/
theorem image_apply (n : Fin 1000) : res_main_v124 V0 (ix3 n 0 0) = BitVec.ofNat 32 (n.val / 500) := by
  unfold res_main_v124
  clean_types
  pointwise []

/-- A neighbour's coordinate, brought onto the map and read as a word. -/
theorem word_apply {x : EReal} {t : ℤ} (h : -2 ≤ t ∧ t ≤ 2) (e : x = (((t : ℝ)) : EReal)) :
    FloatOps.fptosi (F := Ideal) (φ := .f32) 32 (min (FloatOps.sitofp (F := Ideal) FTy.f32 63#32) (max (FloatOps.sitofp (F := Ideal) FTy.f32 0#32) x))
      = BitVec.ofNat 32 t.toNat := by
  have h63 : FloatOps.sitofp (F := Ideal) FTy.f32 63#32 = ((63 : ℝ) : EReal) := by
    show ((((63#32 : BitVec 32).toInt : ℤ) : ℝ) : EReal) = _
    rw [show (63#32 : BitVec 32).toInt = 63 by decide]; norm_num
  have h0 : FloatOps.sitofp (F := Ideal) FTy.f32 0#32 = ((0 : ℝ) : EReal) := by
    show ((((0#32 : BitVec 32).toInt : ℤ) : ℝ) : EReal) = _
    rw [show (0#32 : BitVec 32).toInt = 0 by decide]; norm_num
  rw [h63, h0, e]
  exact clamped h

section Neighbours
variable (n : Fin 1000) (r c : Fin 7) (s t : ℝ) (ht : res_main_v103 V0 (ix3 n r c) = ((t : ℝ) : EReal))
  (hs : res_main_v111 V0 (ix3 n r c) = ((s : ℝ) : EReal))

include ht in
/-- The column left of the point. -/
theorem v112_apply : res_main_v112 V0 (ix3 n r c) = ((((⌊t⌋ : ℤ) : ℝ)) : EReal) := by
  unfold res_main_v112
  clean_types
  pointwise []
  rw [ht, Ideal.liftRound_coe]

include hs in
/-- The row above it. -/
theorem v113_apply : res_main_v113 V0 (ix3 n r c) = ((((⌊s⌋ : ℤ) : ℝ)) : EReal) := by
  unfold res_main_v113
  clean_types
  pointwise []
  rw [hs, Ideal.liftRound_coe]

include ht in
/-- The column right of it. -/
theorem v115_apply : res_main_v115 V0 (ix3 n r c) = ((((⌊t⌋ + 1 : ℤ) : ℝ)) : EReal) := by
  unfold res_main_v115
  clean_types
  pointwise []
  rw [v112_apply V0 n r c t ht, Int.cast_add, EReal.coe_add, Int.cast_one, EReal.coe_one]

include hs in
/-- The row below it. -/
theorem v117_apply : res_main_v117 V0 (ix3 n r c) = ((((⌊s⌋ + 1 : ℤ) : ℝ)) : EReal) := by
  unfold res_main_v117
  clean_types
  pointwise []
  rw [v113_apply V0 n r c s hs, Int.cast_add, EReal.coe_add, Int.cast_one, EReal.coe_one]

include ht in
/-- Its fraction across. -/
theorem v118_apply : res_main_v118 V0 (ix3 n r c) = ((t - ⌊t⌋ : ℝ) : EReal) := by
  unfold res_main_v118
  clean_types
  pointwise []
  rw [v112_apply V0 n r c t ht, ht, EReal.coe_sub]

include hs in
/-- Its fraction down. -/
theorem v121_apply : res_main_v121 V0 (ix3 n r c) = ((s - ⌊s⌋ : ℝ) : EReal) := by
  unfold res_main_v121
  clean_types
  pointwise []
  rw [v113_apply V0 n r c s hs, hs, EReal.coe_sub]

include ht in
/-- The rest across. -/
theorem v120_apply : res_main_v120 V0 (ix3 n r c) = ((1 - (t - ⌊t⌋) : ℝ) : EReal) := by
  unfold res_main_v120
  clean_types
  pointwise []
  rw [v118_apply V0 n r c t ht, ← EReal.coe_one, ← EReal.coe_sub]

include hs in
/-- The rest down. -/
theorem v123_apply : res_main_v123 V0 (ix3 n r c) = ((1 - (s - ⌊s⌋) : ℝ) : EReal) := by
  unfold res_main_v123
  clean_types
  pointwise []
  rw [v121_apply V0 n r c s hs, ← EReal.coe_one, ← EReal.coe_sub]

include hs in
/-- The upper left neighbour's row, as a word. -/
theorem v137_apply (b : -2 ≤ ⌊s⌋ ∧ ⌊s⌋ ≤ 1) : res_main_v137 V0 (ix3 n r c) = BitVec.ofNat 32 ⌊s⌋.toNat := by
  unfold res_main_v137
  clean_types
  pointwise []
  exact word_apply (by omega) (v113_apply V0 n r c s hs)

include ht in
/-- The upper left neighbour's column, as a word. -/
theorem v139_apply (b : -2 ≤ ⌊t⌋ ∧ ⌊t⌋ ≤ 1) : res_main_v139 V0 (ix3 n r c) = BitVec.ofNat 32 ⌊t⌋.toNat := by
  unfold res_main_v139
  clean_types
  pointwise []
  exact word_apply (by omega) (v112_apply V0 n r c t ht)

include hs in
/-- The upper right neighbour's row, as a word. -/
theorem v177_apply (b : -2 ≤ ⌊s⌋ ∧ ⌊s⌋ ≤ 1) : res_main_v177 V0 (ix3 n r c) = BitVec.ofNat 32 ⌊s⌋.toNat := by
  unfold res_main_v177
  clean_types
  pointwise []
  exact word_apply (by omega) (v113_apply V0 n r c s hs)

include ht in
/-- The upper right neighbour's column, as a word. -/
theorem v179_apply (b : -2 ≤ ⌊t⌋ ∧ ⌊t⌋ ≤ 1) : res_main_v179 V0 (ix3 n r c) = BitVec.ofNat 32 (⌊t⌋ + 1).toNat := by
  unfold res_main_v179
  clean_types
  pointwise []
  exact word_apply (by omega) (v115_apply V0 n r c t ht)

include hs in
/-- The lower left neighbour's row, as a word. -/
theorem v217_apply (b : -2 ≤ ⌊s⌋ ∧ ⌊s⌋ ≤ 1) : res_main_v217 V0 (ix3 n r c) = BitVec.ofNat 32 (⌊s⌋ + 1).toNat := by
  unfold res_main_v217
  clean_types
  pointwise []
  exact word_apply (by omega) (v117_apply V0 n r c s hs)

include ht in
/-- The lower left neighbour's column, as a word. -/
theorem v219_apply (b : -2 ≤ ⌊t⌋ ∧ ⌊t⌋ ≤ 1) : res_main_v219 V0 (ix3 n r c) = BitVec.ofNat 32 ⌊t⌋.toNat := by
  unfold res_main_v219
  clean_types
  pointwise []
  exact word_apply (by omega) (v112_apply V0 n r c t ht)

include hs in
/-- The lower right neighbour's row, as a word. -/
theorem v257_apply (b : -2 ≤ ⌊s⌋ ∧ ⌊s⌋ ≤ 1) : res_main_v257 V0 (ix3 n r c) = BitVec.ofNat 32 (⌊s⌋ + 1).toNat := by
  unfold res_main_v257
  clean_types
  pointwise []
  exact word_apply (by omega) (v117_apply V0 n r c s hs)

include ht in
/-- The lower right neighbour's column, as a word. -/
theorem v259_apply (b : -2 ≤ ⌊t⌋ ∧ ⌊t⌋ ≤ 1) : res_main_v259 V0 (ix3 n r c) = BitVec.ofNat 32 (⌊t⌋ + 1).toNat := by
  unfold res_main_v259
  clean_types
  pointwise []
  exact word_apply (by omega) (v115_apply V0 n r c t ht)

include ht hs in
/-- The upper two neighbours. -/
theorem upper_apply (bs : -2 ≤ ⌊s⌋ ∧ ⌊s⌋ ≤ 1) (bt : -2 ≤ ⌊t⌋ ∧ ⌊t⌋ ≤ 1) (ch : Fin 384) : res_main_v293 V0 (ix4 n r c ch)
    = tap (pix (V0 (Proc.devRef .tc main_arg0)) ⟨n.val / 500, by omega⟩ ch) ⌊s⌋ ⌊t⌋ * (((1 - (s - ⌊s⌋)) * (1 - (t - ⌊t⌋)) : ℝ) : EReal)
      + tap (pix (V0 (Proc.devRef .tc main_arg0)) ⟨n.val / 500, by omega⟩ ch) ⌊s⌋ (⌊t⌋ + 1) * (((1 - (s - ⌊s⌋)) * (t - ⌊t⌋) : ℝ) : EReal) := by
  unfold res_main_v293
  clean_types
  pointwise [gather_apply]
  refine congrArg₂ (· + ·) (congrArg₂ (· * ·) ?_ ?_) (congrArg₂ (· * ·) ?_ ?_)
  · exact tap_apply _ ⟨n.val / 500, by omega⟩ ch (by omega) (by omega) _ _ _ _ _ _ (image_apply V0 n) (v137_apply V0 n r c s hs bs)
      (v139_apply V0 n r c t ht bt) _ _ (v113_apply V0 n r c s hs) (v112_apply V0 n r c t ht)
  · rw [v123_apply V0 n r c s hs, v120_apply V0 n r c t ht, EReal.coe_mul]
  · exact tap_apply _ ⟨n.val / 500, by omega⟩ ch (by omega) (by omega) _ _ _ _ _ _ (image_apply V0 n) (v177_apply V0 n r c s hs bs)
      (v179_apply V0 n r c t ht bt) _ _ (v113_apply V0 n r c s hs) (v115_apply V0 n r c t ht)
  · rw [v123_apply V0 n r c s hs, v118_apply V0 n r c t ht, EReal.coe_mul]

include ht hs in
/-- All four neighbours. -/
theorem four_apply (bs : -2 ≤ ⌊s⌋ ∧ ⌊s⌋ ≤ 1) (bt : -2 ≤ ⌊t⌋ ∧ ⌊t⌋ ≤ 1) (ch : Fin 384) : res_main_v303 V0 (ix4 n r c ch)
    = four (pix (V0 (Proc.devRef .tc main_arg0)) ⟨n.val / 500, by omega⟩ ch) s t := by
  unfold res_main_v303
  clean_types
  pointwise [gather_apply]
  rw [upper_apply V0 n r c s t ht hs bs bt ch]
  unfold four
  refine congrArg₂ (· + ·) (congrArg₂ (· + ·) rfl (congrArg₂ (· * ·) ?_ ?_)) (congrArg₂ (· * ·) ?_ ?_)
  · exact tap_apply _ ⟨n.val / 500, by omega⟩ ch (by omega) (by omega) _ _ _ _ _ _ (image_apply V0 n) (v217_apply V0 n r c s hs bs)
      (v219_apply V0 n r c t ht bt) _ _ (v117_apply V0 n r c s hs) (v112_apply V0 n r c t ht)
  · rw [v121_apply V0 n r c s hs, v120_apply V0 n r c t ht, EReal.coe_mul]
  · exact tap_apply _ ⟨n.val / 500, by omega⟩ ch (by omega) (by omega) _ _ _ _ _ _ (image_apply V0 n) (v257_apply V0 n r c s hs bs)
      (v259_apply V0 n r c t ht bt) _ _ (v117_apply V0 n r c s hs) (v115_apply V0 n r c t ht)
  · rw [v121_apply V0 n r c s hs, v118_apply V0 n r c t ht, EReal.coe_mul]

end Neighbours

section FarOff
variable (n : Fin 1000) (r c : Fin 7)

/-- A far column's floor is far, -/
theorem v112_far (h : Far (res_main_v103 V0 (ix3 n r c))) : Far (res_main_v112 V0 (ix3 n r c)) := by
  unfold res_main_v112
  clean_types
  pointwise []
  rcases h with e | e <;> rw [e]
  · exact .inl rfl
  · exact .inr rfl

/-- and a far row's, -/
theorem v113_far (h : Far (res_main_v111 V0 (ix3 n r c))) : Far (res_main_v113 V0 (ix3 n r c)) := by
  unfold res_main_v113
  clean_types
  pointwise []
  rcases h with e | e <;> rw [e]
  · exact .inl rfl
  · exact .inr rfl

/-- and the column right of one, -/
theorem v115_far (h : Far (res_main_v112 V0 (ix3 n r c))) : Far (res_main_v115 V0 (ix3 n r c)) := by
  unfold res_main_v115
  clean_types
  pointwise []
  have h1 := far_add_real h 1
  rw [EReal.coe_one] at h1
  exact h1

/-- and the row below one. -/
theorem v117_far (h : Far (res_main_v113 V0 (ix3 n r c))) : Far (res_main_v117 V0 (ix3 n r c)) := by
  unfold res_main_v117
  clean_types
  pointwise []
  have h1 := far_add_real h 1
  rw [EReal.coe_one] at h1
  exact h1

variable (h : Far (res_main_v111 V0 (ix3 n r c)) ∨ Far (res_main_v103 V0 (ix3 n r c)))
include h

/-- The upper two neighbours of a far point: nothing. -/
theorem upper_far (ch : Fin 384) : res_main_v293 V0 (ix4 n r c ch) = (0 : EReal) := by
  unfold res_main_v293
  clean_types
  pointwise [gather_apply]
  rw [tap_far _ _ _ (h.imp (v113_far V0 n r c) (v112_far V0 n r c)),
    tap_far _ _ _ (h.imp (v113_far V0 n r c) fun g => v115_far V0 n r c (v112_far V0 n r c g)), zero_mul, zero_mul, add_zero]

/-- All four: nothing. -/
theorem four_far (ch : Fin 384) : res_main_v303 V0 (ix4 n r c ch) = (0 : EReal) := by
  unfold res_main_v303
  clean_types
  pointwise [gather_apply]
  rw [upper_far V0 n r c h ch, tap_far _ _ _ (h.imp (fun g => v117_far V0 n r c (v113_far V0 n r c g)) (v112_far V0 n r c)),
    tap_far _ _ _ (h.imp (fun g => v117_far V0 n r c (v113_far V0 n r c g)) fun g => v115_far V0 n r c (v112_far V0 n r c g)),
    zero_mul, zero_mul, add_zero, add_zero]

end FarOff

end Cert.ReferenceIdeal.Roi

end
-- ==== Proof.Range.lean ====
/- The precondition at an entry: every proposal's centre and sides are reals of [0, 1]. -/
module

public import proofs.«01_k».proof.Pre_unit_range
public import Idealize.ShloMosaic.Lib.Pointwise
public import Idealize.ShloMosaic.Lib.ReduceAll

@[expose] public section

set_option maxRecDepth 16384

noncomputable section

namespace Cert.Range

open Idealize.ShloMosaic Cert.Pre_unit_range

/-- The shape relations the precondition's operations take. -/
theorem facts : Cert.Pre_unit_range.Facts := ⟨by decide, by decide, by decide, by decide⟩

variable [Cert.Pre_unit_range.Facts]

/-- Under the precondition a proposal's first four coordinates are reals of [0, 1]. -/
theorem entry (A : FVec Ideal S2x384x64x64 .f32) (B : FVec Ideal S2x500x5 .f32) (h : fn (F := Ideal) A B = fun _ => 1#1)
    (b : Fin 2) (j : Fin 500) (k : Fin 4) : ∃ x : ℝ, B (ix3 b j k.castSucc) = ((x : ℝ) : EReal) ∧ 0 ≤ x ∧ x ≤ 1 := by
  have : Subsingleton S_.Idx := ⟨fun a b => funext fun k => k.elim0⟩
  have h1 := Host.reduce_andi_all _ _ _ _ _ (congrFun h (fun a => a.elim0)) (ix3 b j k)
  have hs : extractStridedSlice S2x500x4 ![0, 0, 0] B Facts.slices_S2x500x5_S2x500x4_0_0_0 (ix3 b j k) = B (ix3 b j k.castSucc) := by
    pointwise []
    rfl
  obtain ⟨hge, hle⟩ := IntOp.andi_eq_one.1 h1
  have e0 : Ideal.cmp .oge (extractStridedSlice S2x500x4 ![0, 0, 0] B Facts.slices_S2x500x5_S2x500x4_0_0_0 (ix3 b j k)) (Ideal.ofBits .f32 0x00000000#32) = 1#1 := hge
  have e1 : Ideal.cmp .ole (extractStridedSlice S2x500x4 ![0, 0, 0] B Facts.slices_S2x500x5_S2x500x4_0_0_0 (ix3 b j k)) (Ideal.ofBits .f32 0x3F800000#32) = 1#1 := hle
  rw [hs, Ideal.ofBits_zero_f32] at e0
  rw [hs, Ideal.ofBits_one_f32] at e1
  have g0 : (0 : EReal) ≤ B (ix3 b j k.castSucc) := by
    by_contra hc
    simp [Ideal.cmp, hc] at e0
  have g1 : B (ix3 b j k.castSucc) ≤ (1 : EReal) := by
    by_contra hc
    simp [Ideal.cmp, hc] at e1
  generalize B (ix3 b j k.castSucc) = y at g0 g1 ⊢
  induction y using EReal.rec with
  | bot => exact absurd g0 (by simp)
  | top => exact absurd g1 (not_le.mpr (EReal.coe_lt_top 1))
  | coe x => exact ⟨x, rfl, by exact_mod_cast g0, by exact_mod_cast g1⟩

end Cert.Range

end
-- ==== Proof.Algebraic.lean ====
/- The kernel and the reference compute one result over the extended reals. -/
module

public import proofs.«01_k».proof.Defs
public import proofs.«01_k».proof.Proof.KernelIdeal.Reads
public import proofs.«01_k».proof.Proof.ReferenceIdeal.Value
public import proofs.«01_k».proof.Proof.Range

@[expose] public section

set_option maxRecDepth 16384

noncomputable section

namespace Cert.Proof

open Idealize.ShloMosaic Idealize.ShloMosaic.TcCoe Idealize.SL.Sem Cert.Bilinear

/-- The two laid out results agree entry by entry, for boxes whose centre and sides are of [0, 1], at any angle. -/
theorem results_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (hB : ∀ (b : Fin 2) (j : Fin 500) (k : Fin 4), ∃ x : ℝ,
      m ((c.tc : Thread Cert.KernelIdeal.nD Cert.KernelIdeal.τ).loc Cert.KernelIdeal.main_arg1) (ix3 b j k.castSucc) = ((x : ℝ) : EReal)
        ∧ 0 ≤ x ∧ x ≤ 1) :
    (transpose Cert.ReferenceIdeal.S1000x384x7x7 [0, 3, 1, 2] (Cert.ReferenceIdeal.Value.res_main_v303 V0)
        Cert.ReferenceIdeal.Gen.transposes_S1000x7x7x384_S1000x384x7x7_0_3_1_2 : FVec Ideal Cert.ReferenceIdeal.S1000x384x7x7 .f32)
      = shapeCast Cert.KernelIdeal.S1000x384x7x7 (transpose Cert.KernelIdeal.S1000x384x49 [1, 2, 0] (Cert.KernelIdeal.Roi.pooled m c)
          Cert.KernelIdeal.Gen.transposes_S49x1000x384_S1000x384x49_1_2_0) Cert.KernelIdeal.Gen.shapeCasts_S1000x384x49_S1000x384x7x7 := by
  funext j
  obtain ⟨n, ch, r, q, rfl⟩ : ∃ (n : Fin 1000) (ch : Fin 384) (r q : Fin 7), j = ix4 n ch r q := by
    refine ⟨j 0, j 1, j 2, j 3, ?_⟩
    funext a
    match a with
    | ⟨0, _⟩ => rfl
    | ⟨1, _⟩ => rfl
    | ⟨2, _⟩ => rfl
    | ⟨3, _⟩ => rfl
  choose p hp hp0 hp1 using hB (⟨n.val / 500, by omega⟩ : Fin 2) (⟨n.val % 500, Nat.mod_lt _ (by decide)⟩ : Fin 500)
  obtain ⟨a, ha⟩ : ∃ a : EReal, m ((c.tc : Thread Cert.KernelIdeal.nD Cert.KernelIdeal.τ).loc Cert.KernelIdeal.main_arg1)
      (ix3 (⟨n.val / 500, by omega⟩ : Fin 2) (⟨n.val % 500, Nat.mod_lt _ (by decide)⟩ : Fin 500) 4) = a := ⟨_, rfl⟩
  have hrp : ∀ k : Fin 4, Cert.ReferenceIdeal.Value.res_main_v0 V0 (ix2 n k.castSucc) = ((p k : ℝ) : EReal) := fun k =>
    (Cert.ReferenceIdeal.Roi.boxes_apply V0 n k.castSucc).trans ((congrFun h1 _).trans (hp k))
  have hra : Cert.ReferenceIdeal.Value.res_main_v0 V0 (ix2 n 4) = a :=
    (Cert.ReferenceIdeal.Roi.boxes_apply V0 n 4).trans ((congrFun h1 _).trans ha)
  have hX := Cert.ReferenceIdeal.Roi.column_apply V0 n p hrp a hra r q
  have hY := Cert.ReferenceIdeal.Roi.row_apply V0 n p hrp a hra r q
  have cX := pxX_cases ⟨hp0 0, hp1 0⟩ ⟨hp0 2, hp1 2⟩ ⟨hp0 3, hp1 3⟩ q.isLt r.isLt (a * ((-878453 / 50331648 : ℝ) : EReal))
  have cY := pxY_cases ⟨hp0 1, hp1 1⟩ ⟨hp0 2, hp1 2⟩ ⟨hp0 3, hp1 3⟩ q.isLt r.isLt (a * ((-878453 / 50331648 : ℝ) : EReal))
  have far : ∀ h : Far (pxY (p 1) (p 2) (p 3) (a * ((-878453 / 50331648 : ℝ) : EReal)) q.val r.val)
      ∨ Far (pxX (p 0) (p 2) (p 3) (a * ((-878453 / 50331648 : ℝ) : EReal)) q.val r.val),
      (transpose Cert.ReferenceIdeal.S1000x384x7x7 [0, 3, 1, 2] (Cert.ReferenceIdeal.Value.res_main_v303 V0)
        Cert.ReferenceIdeal.Gen.transposes_S1000x7x7x384_S1000x384x7x7_0_3_1_2 : FVec Ideal Cert.ReferenceIdeal.S1000x384x7x7 .f32) (ix4 n ch r q)
      = shapeCast Cert.KernelIdeal.S1000x384x7x7 (transpose Cert.KernelIdeal.S1000x384x49 [1, 2, 0] (Cert.KernelIdeal.Roi.pooled m c)
          Cert.KernelIdeal.Gen.transposes_S49x1000x384_S1000x384x49_1_2_0) Cert.KernelIdeal.Gen.shapeCasts_S1000x384x49_S1000x384x7x7 (ix4 n ch r q) := by
    intro h
    refine Eq.trans ?_ (Cert.KernelIdeal.Roi.result_far m c n ch r q p a hp ha h).symm
    refine Eq.trans ?_ (Cert.ReferenceIdeal.Roi.four_far V0 n r q (by rw [hX, hY]; exact h) ch)
    pointwise []
  rcases cX with fX | ⟨t, et, bt⟩
  · exact far (.inr fX)
  rcases cY with fY | ⟨s, es, bs⟩
  · exact far (.inl fY)
  refine Eq.trans ?_ (Cert.KernelIdeal.Roi.result_apply m c n ch r q p a hp ha es et).symm
  rw [← h0]
  refine Eq.trans ?_ (sixteen_eq_four _ bs bt).symm
  refine Eq.trans ?_ (Cert.ReferenceIdeal.Roi.four_apply V0 n r q s t (hX.trans et) (hY.trans es) bs bt ch)
  pointwise []

/-- From memories that agree on the arguments, the boxes' centres and sides in [0, 1], both programs end with one result. -/
theorem algebraic [Cert.Pre_unit_range.Facts] : Cert.algebraic_KernelIdeal_ReferenceIdeal_pre_unit_range := by
  intro m g m' g' hpre hargs
  refine ⟨fun c => shapeCast Cert.KernelIdeal.S1000x384x7x7 (transpose Cert.KernelIdeal.S1000x384x49 [1, 2, 0] (Cert.KernelIdeal.Roi.pooled m c)
          Cert.KernelIdeal.Gen.transposes_S49x1000x384_S1000x384x49_1_2_0) Cert.KernelIdeal.Gen.shapeCasts_S1000x384x49_S1000x384x7x7, ?_, ?_⟩
  · exact (θ_run Cert.KernelIdeal.defs _ _).mono (fun _ h => h.1) (Cert.KernelIdeal.Roi.ends (F := Ideal) m g)
  · refine (θ_run Cert.ReferenceIdeal.defs _ _).mono (fun r h c => ⟨(h c).1.trans ?_, (h c).2⟩) (Cert.ReferenceIdeal.Value.run (F := Ideal) m' g')
    exact results_eq m c (StableHlo.launchContents m' c) (hargs c).1 (hargs c).2 (Cert.Range.entry _ _ (hpre c))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Range.facts,
    frame_p, frame_pi, @frame_pi_pre Cert.Range.facts, frame_ri, @frame_ri_pre Cert.Range.facts, preserves, @algebraic Cert.Range.facts⟩

end Cert.Proof

end
